-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v45_0)) (v1 : (c : Dev Cert.Kernel7Ideal.nD) → Buf (Elt Ideal) ((c.tc : Thread Cert.Kernel7Ideal.nD Cert.Kernel7Ideal.τ).loc Cert.Kernel7Ideal.main_v45_1)) (v2 : (c : Dev Cert.Kernel7Ideal.nD) → Buf (Elt Ideal) ((c.tc : Thread Cert.Kernel7Ideal.nD Cert.Kernel7Ideal.τ).loc Cert.Kernel7Ideal.main_v45_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v45_0) = v0 c
          ∧ r.2.mem ((c.tc : Thread Cert.Kernel7Ideal.nD Cert.Kernel7Ideal.τ).loc Cert.Kernel7Ideal.main_v45_1) = v1 c
          ∧ r.2.mem ((c.tc : Thread Cert.Kernel7Ideal.nD Cert.Kernel7Ideal.τ).loc Cert.Kernel7Ideal.main_v45_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v100) = v0 c
          ∧ r.2.mem ((c.tc : Thread Cert.Reference7Ideal.nD Cert.Reference7Ideal.τ).loc Cert.Reference7Ideal.main_v102) = v1 c
          ∧ r.2.mem ((c.tc : Thread Cert.Reference7Ideal.nD Cert.Reference7Ideal.τ).loc Cert.Reference7Ideal.main_v106) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16384x2048 : Shape := ⟨2, ![16384, 2048]⟩
abbrev S16384x512 : Shape := ⟨2, ![16384, 512]⟩
abbrev S512x16384 : Shape := ⟨2, ![512, 16384]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  bcast_S_S16384x512 : S_.BroadcastsInDim S16384x512 (![] : Fin 0 → Fin S16384x512.rank)

variable [Facts]

def fn {F : FTy → Type} [FloatOps F] (main_arg0 : FVec F S16384x2048 .bf16) (main_arg1 : FVec F S16384x512 .bf16) (main_arg2 : FVec F S512x16384 .bf16) : IVec S16384x2048 1 × IVec S16384x512 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  (main_v3, main_v7)
-- ==== Kernel.lean ====
abbrev S16384x2048 : Shape := ⟨2, ![16384, 2048]⟩
abbrev S16384x512 : Shape := ⟨2, ![16384, 512]⟩
abbrev S512x16384 : Shape := ⟨2, ![512, 16384]⟩
abbrev S2048x512 : Shape := ⟨2, ![2048, 512]⟩
abbrev S2048x128 : Shape := ⟨2, ![2048, 128]⟩
abbrev S128x2048 : Shape := ⟨2, ![128, 2048]⟩
abbrev S2x2048x2048 : Shape := ⟨3, ![2, 2048, 2048]⟩
abbrev S16x2048 : Shape := ⟨2, ![16, 2048]⟩
abbrev S144x2048 : Shape := ⟨2, ![144, 2048]⟩
abbrev S1024x128 : Shape := ⟨2, ![1024, 128]⟩
abbrev S1024x2048 : Shape := ⟨2, ![1024, 2048]⟩
abbrev S1x1024x2048 : Shape := ⟨3, ![1, 1024, 2048]⟩
abbrev S128x8x2048 : Shape := ⟨3, ![128, 8, 2048]⟩
abbrev S8x2048 : Shape := ⟨2, ![8, 2048]⟩
abbrev S2048 : Shape := ⟨1, ![2048]⟩
abbrev S1x2048 : Shape := ⟨2, ![1, 2048]⟩
abbrev S144x1024 : Shape := ⟨2, ![144, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S512x16384, .bf16⟩
  | .hbm, ⟨3, _⟩ => ⟨S16384x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x128, .bf16⟩
  | .local _ .vmem, ⟨3, _⟩ => ⟨S2048x128, .bf16⟩
  | .local _ .vmem, ⟨4, _⟩ => ⟨S128x2048, .bf16⟩
  | .local _ .vmem, ⟨5, _⟩ => ⟨S128x2048, .bf16⟩
  | .local _ .vmem, ⟨6, _⟩ => ⟨S2048x512, .bf16⟩
  | .local _ .vmem, ⟨7, _⟩ => ⟨S2048x512, .bf16⟩
  | .local _ .vmem, ⟨8, _⟩ => ⟨S2x2048x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S16384x2048 : Shape := ⟨2, ![16384, 2048]⟩
abbrev S16384x512 : Shape := ⟨2, ![16384, 512]⟩
abbrev S512x16384 : Shape := ⟨2, ![512, 16384]⟩
abbrev S8x2048x4x4x128 : Shape := ⟨5, ![8, 2048, 4, 4, 128]⟩
abbrev S8x2048x4x128 : Shape := ⟨4, ![8, 2048, 4, 128]⟩
abbrev S8x4x2048x2048x4 : Shape := ⟨5, ![8, 4, 2048, 2048, 4]⟩
abbrev S8x4x4x2048x2048 : Shape := ⟨5, ![8, 4, 4, 2048, 2048]⟩
abbrev S_ : Shape := ⟨0, ![]⟩
abbrev S8x4x4x2048 : Shape := ⟨4, ![8, 4, 4, 2048]⟩
abbrev S8x4x4x2048x1 : Shape := ⟨5, ![8, 4, 4, 2048, 1]⟩
abbrev S8x4x128x4x2048 : Shape := ⟨5, ![8, 4, 128, 4, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S512x16384, .bf16⟩
  | .hbm, ⟨3, _⟩ => ⟨S16384x2048, .f32⟩
  | .hbm, ⟨4, _⟩ => ⟨S8x2048x4x4x128, .f32⟩
  | .hbm, ⟨5, _⟩ => ⟨S16384x512, .f32⟩
  | .hbm, ⟨6, _⟩ => ⟨S8x2048x4x128, .f32⟩
  | .hbm, ⟨7, _⟩ => ⟨S512x16384, .f32⟩
  | .hbm, ⟨8, _⟩ => ⟨S16384x512, .f32⟩
  | .hbm, ⟨9, _⟩ => ⟨S8x2048x4x128, .f32⟩
  | .hbm, ⟨10, _⟩ => ⟨S8x4x2048x2048x4, .f32⟩
  | .hbm, ⟨11, _⟩ => ⟨S8x4x4x2048x2048, .f32⟩
  | .hbm, ⟨12, _⟩ => ⟨S_, .f32⟩
  | .hbm, ⟨13, _⟩ => ⟨S8x4x4x2048x2048, .f32⟩
  | .hbm, ⟨14, _⟩ => ⟨S8x4x4x2048x2048, .f32⟩
  | .hbm, ⟨15, _⟩ => ⟨S_, .f32⟩
  | .hbm, ⟨16, _⟩ => ⟨S8x4x4x2048, .f32⟩
  | .hbm, ⟨17, _⟩ => ⟨S_, .f32⟩
  | .hbm, ⟨18, _⟩ => ⟨S8x4x4x2048, .f32⟩
  | .hbm, ⟨19, _⟩ => ⟨S8x4x4x2048, .f32⟩
  | .hbm, ⟨20, _⟩ => ⟨S8x4x4x2048x1, .f32⟩
  | .hbm, ⟨21, _⟩ => ⟨S8x4x4x2048x2048, .f32⟩
  | .hbm, ⟨22, _⟩ => ⟨S8x4x4x2048x2048, .f32⟩
  | .hbm, ⟨23, _⟩ => ⟨S8x4x4x2048x2048, .f32⟩
  | .hbm, ⟨24, _⟩ => ⟨S_, .f32⟩
  | .hbm, ⟨25, _⟩ => ⟨S8x4x4x2048, .f32⟩
  | .hbm, ⟨26, _⟩ => ⟨S8x4x4x2048x1, .f32⟩
  | .hbm, ⟨27, _⟩ => ⟨S8x4x4x2048x2048, .f32⟩
  | .hbm, ⟨28, _⟩ => ⟨S8x4x4x2048x2048, .f32⟩
  | .hbm, ⟨29, _⟩ => ⟨S8x4x128x4x2048, .f32⟩
  | .hbm, ⟨30, _⟩ => ⟨S8x2048x4x4x128, .f32⟩
  | .hbm, ⟨31, _⟩ => ⟨S16384x2048, .f32⟩
  | .hbm, ⟨32, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel2.lean ====
abbrev S16384x4096 : Shape := ⟨2, ![16384, 4096]⟩
abbrev S2x4096x22016 : Shape := ⟨3, ![2, 4096, 22016]⟩
abbrev S2x3x11008 : Shape := ⟨3, ![2, 3, 11008]⟩
abbrev S2x11008 : Shape := ⟨2, ![2, 11008]⟩
abbrev S1x3x11008 : Shape := ⟨3, ![1, 3, 11008]⟩
abbrev S3x11008 : Shape := ⟨2, ![3, 11008]⟩
abbrev S1x11008 : Shape := ⟨2, ![1, 11008]⟩
abbrev S11008 : Shape := ⟨1, ![11008]⟩
abbrev S16x1024x4096 : Shape := ⟨3, ![16, 1024, 4096]⟩
abbrev S16x1x4096 : Shape := ⟨3, ![16, 1, 4096]⟩
abbrev S16x4096 : Shape := ⟨2, ![16, 4096]⟩
abbrev S16x2x4096 : Shape := ⟨3, ![16, 2, 4096]⟩
abbrev S32x4096 : Shape := ⟨2, ![32, 4096]⟩
abbrev S16384x11008 : Shape := ⟨2, ![16384, 11008]⟩
abbrev S1024x4096 : Shape := ⟨2, ![1024, 4096]⟩
abbrev S1x4096x256 : Shape := ⟨3, ![1, 4096, 256]⟩
abbrev S3x256 : Shape := ⟨2, ![3, 256]⟩
abbrev S1x256 : Shape := ⟨2, ![1, 256]⟩
abbrev S1024x256 : Shape := ⟨2, ![1024, 256]⟩
abbrev S4096x256 : Shape := ⟨2, ![4096, 256]⟩
abbrev S32x256 : Shape := ⟨2, ![32, 256]⟩

abbrev nBuf : Space → Nat
  | .hbm => 19
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S2x3x11008, .f32⟩
  | .hbm, ⟨3, _⟩ => ⟨S2x11008, .f32⟩
  | .hbm, ⟨4, _⟩ => ⟨S1x3x11008, .f32⟩
  | .hbm, ⟨5, _⟩ => ⟨S3x11008, .f32⟩
  | .hbm, ⟨6, _⟩ => ⟨S1x11008, .f32⟩
  | .hbm, ⟨7, _⟩ => ⟨S11008, .f32⟩
  | .hbm, ⟨8, _⟩ => ⟨S16x1024x4096, .bf16⟩
  | .hbm, ⟨9, _⟩ => ⟨S16x1x4096, .bf16⟩
  | .hbm, ⟨10, _⟩ => ⟨S16x4096, .bf16⟩
  | .hbm, ⟨11, _⟩ => ⟨S16x1x4096, .bf16⟩
  | .hbm, ⟨12, _⟩ => ⟨S16x4096, .bf16⟩
  | .hbm, ⟨13, _⟩ => ⟨S16x1x4096, .bf16⟩
  | .hbm, ⟨14, _⟩ => ⟨S16x1x4096, .bf16⟩
  | .hbm, ⟨15, _⟩ => ⟨S16x2x4096, .bf16⟩
  | .hbm, ⟨16, _⟩ => ⟨S32x4096, .bf16⟩
  | .hbm, ⟨17, _⟩ => ⟨S1x11008, .f32⟩
  | .hbm, ⟨18, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1024x256, .bf16⟩
  | .local _ .vmem, ⟨12, _⟩ => ⟨S1024x256, .bf16⟩
  | .local _ .vmem, ⟨13, _⟩ => ⟨S4096x256, .bf16⟩
  | .local _ .vmem, ⟨14, _⟩ => ⟨S4096x256, .bf16⟩
  | .local _ .vmem, ⟨15, _⟩ => ⟨S32x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![43, 16], ![false, false]⟩

def k0_off1 (i : grid0.Coords) : Fin 2 → Nat :=
  let c2_i32_13 : BitVec 32 := 2#32
  let arg1 : BitVec 32 := BitVec.ofNat 32 (i 1).val
  let v24 : BitVec 32 := Scalar.muli c2_i32_13 arg1
  let c1_i32_14 : BitVec 32 := 1#32
  let v25 : BitVec 32 := Scalar.subi v24 c1_i32_14
  let c0_i32_15 : BitVec 32 := 0#32
  let v26 : BitVec 32 := Scalar.maxsi v25 c0_i32_15
  let v27 : Index := Scalar.indexCast v26
  let c0_16 : Index := 0#32
  ![v27.toNat, 0]
def k0_off2 (i : grid0.Coords) : Fin 2 → Nat :=
  let c2_i32_17 : BitVec 32 := 2#32
  let arg1 : BitVec 32 := BitVec.ofNat 32 (i 1).val
  let v31 : BitVec 32 := Scalar.muli c2_i32_17 arg1
  let c2_i32_18 : BitVec 32 := 2#32
  let v32 : BitVec 32 := Scalar.addi v31 c2_i32_18
  let c31_i32 : BitVec 32 := 31#32
  let v33 : BitVec 32 := Scalar.minsi v32 c31_i32
  let v34 : Index := Scalar.indexCast v33
  let c0_19 : Index := 0#32
  ![v34.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S16384x4096 : Shape := ⟨2, ![16384, 4096]⟩
abbrev S2x4096x22016 : Shape := ⟨3, ![2, 4096, 22016]⟩
abbrev S2x3x11008 : Shape := ⟨3, ![2, 3, 11008]⟩
abbrev S2x11008 : Shape := ⟨2, ![2, 11008]⟩
abbrev S8x2048x4096 : Shape := ⟨3, ![8, 2048, 4096]⟩
abbrev S1x4096x22016 : Shape := ⟨3, ![1, 4096, 22016]⟩
abbrev S4096x22016 : Shape := ⟨2, ![4096, 22016]⟩
abbrev S8x2048x22016 : Shape := ⟨3, ![8, 2048, 22016]⟩
abbrev S8x2048x11008 : Shape := ⟨3, ![8, 2048, 11008]⟩
abbrev S_ : Shape := ⟨0, ![]⟩
abbrev S8x2050x11008 : Shape := ⟨3, ![8, 2050, 11008]⟩
abbrev S1x11008 : Shape := ⟨2, ![1, 11008]⟩
abbrev S11008 : Shape := ⟨1, ![11008]⟩
abbrev S1x1x11008 : Shape := ⟨3, ![1, 1, 11008]⟩
abbrev S16384x11008 : Shape := ⟨2, ![16384, 11008]⟩

abbrev nBuf : Space → Nat
  | .hbm => 51
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S2x3x11008, .f32⟩
  | .hbm, ⟨3, _⟩ => ⟨S2x11008, .f32⟩
  | .hbm, ⟨4, _⟩ => ⟨S16384x4096, .f32⟩
  | .hbm, ⟨5, _⟩ => ⟨S8x2048x4096, .f32⟩
  | .hbm, ⟨6, _⟩ => ⟨S1x4096x22016, .f32⟩
  | .hbm, ⟨7, _⟩ => ⟨S4096x22016, .f32⟩
  | .hbm, ⟨8, _⟩ => ⟨S8x2048x22016, .f32⟩
  | .hbm, ⟨9, _⟩ => ⟨S8x2048x11008, .f32⟩
  | .hbm, ⟨10, _⟩ => ⟨S_, .i32⟩
  | .hbm, ⟨11, _⟩ => ⟨S_, .f32⟩
  | .hbm, ⟨12, _⟩ => ⟨S8x2050x11008, .f32⟩
  | .hbm, ⟨13, _⟩ => ⟨S1x11008, .f32⟩
  | .hbm, ⟨14, _⟩ => ⟨S11008, .f32⟩
  | .hbm, ⟨15, _⟩ => ⟨S8x2048x11008, .f32⟩
  | .hbm, ⟨16, _⟩ => ⟨S1x1x11008, .f32⟩
  | .hbm, ⟨17, _⟩ => ⟨S11008, .f32⟩
  | .hbm, ⟨18, _⟩ => ⟨S1x1x11008, .f32⟩
  | .hbm, ⟨19, _⟩ => ⟨S8x2048x11008, .f32⟩
  | .hbm, ⟨20, _⟩ => ⟨S8x2048x11008, .f32⟩
  | .hbm, ⟨21, _⟩ => ⟨S1x1x11008, .f32⟩
  | .hbm, ⟨22, _⟩ => ⟨S8x2048x11008, .f32⟩
  | .hbm, ⟨23, _⟩ => ⟨S8x2048x11008, .f32⟩
  | .hbm, ⟨24, _⟩ => ⟨S8x2048x11008, .f32⟩
  | .hbm, ⟨25, _⟩ => ⟨S1x1x11008, .f32⟩
  | .hbm, ⟨26, _⟩ => ⟨S11008, .f32⟩
  | .hbm, ⟨27, _⟩ => ⟨S1x1x11008, .f32⟩
  | .hbm, ⟨28, _⟩ => ⟨S8x2048x11008, .f32⟩
  | .hbm, ⟨29, _⟩ => ⟨S8x2048x11008, .f32⟩
  | .hbm, ⟨30, _⟩ => ⟨S8x2048x11008, .f32⟩
  | .hbm, ⟨31, _⟩ => ⟨S8x2048x11008, .f32⟩
  | .hbm, ⟨32, _⟩ => ⟨S1x1x11008, .f32⟩
  | .hbm, ⟨33, _⟩ => ⟨S11008, .f32⟩
  | .hbm, ⟨34, _⟩ => ⟨S1x1x11008, .f32⟩
  | .hbm, ⟨35, _⟩ => ⟨S8x2048x11008, .f32⟩
  | .hbm, ⟨36, _⟩ => ⟨S8x2048x11008, .f32⟩
  | .hbm, ⟨37, _⟩ => ⟨S8x2048x11008, .f32⟩
  | .hbm, ⟨38, _⟩ => ⟨S8x2048x11008, .f32⟩
  | .hbm, ⟨39, _⟩ => ⟨S8x2048x11008, .f32⟩
  | .hbm, ⟨40, _⟩ => ⟨S_, .f32⟩
  | .hbm, ⟨41, _⟩ => ⟨S8x2048x11008, .f32⟩
  | .hbm, ⟨42, _⟩ => ⟨S8x2048x11008, .f32⟩
  | .hbm, ⟨43, _⟩ => ⟨S_, .f32⟩
  | .hbm, ⟨44, _⟩ => ⟨S8x2048x11008, .f32⟩
  | .hbm, ⟨45, _⟩ => ⟨S8x2048x11008, .f32⟩
  | .hbm, ⟨46, _⟩ => ⟨S8x2048x11008, .f32⟩
  | .hbm, ⟨47, _⟩ => ⟨S8x2048x11008, .f32⟩
  | .hbm, ⟨48, _⟩ => ⟨S8x2048x11008, .f32⟩
  | .hbm, ⟨49, _⟩ => ⟨S16384x11008, .f32⟩
  | .hbm, ⟨50, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel3.lean ====
abbrev S16384x11008 : Shape := ⟨2, ![16384, 11008]⟩
abbrev S2x11008x4096 : Shape := ⟨3, ![2, 11008, 4096]⟩
abbrev S16384x4096 : Shape := ⟨2, ![16384, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S2x11008x4096, .f32⟩
  | .hbm, ⟨2, _⟩ => ⟨S16384x4096, .f32⟩
  | .hbm, ⟨3, _⟩ => ⟨S2x11008x4096, .bf16⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x11008 : Shape := ⟨2, ![16384, 11008]⟩
abbrev S2x11008x4096 : Shape := ⟨3, ![2, 11008, 4096]⟩
abbrev S16384x4096 : Shape := ⟨2, ![16384, 4096]⟩
abbrev S_ : Shape := ⟨0, ![]⟩
abbrev S1x11008x4096 : Shape := ⟨3, ![1, 11008, 4096]⟩
abbrev S11008x4096 : Shape := ⟨2, ![11008, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S2x11008x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x11008, .f32⟩
  | .hbm, ⟨7, _⟩ => ⟨S1x11008x4096, .f32⟩
  | .hbm, ⟨8, _⟩ => ⟨S11008x4096, .f32⟩
  | .hbm, ⟨9, _⟩ => ⟨S16384x4096, .f32⟩
  | .hbm, ⟨10, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S16384x4096 : Shape := ⟨2, ![16384, 4096]⟩
abbrev S2x4096x10240 : Shape := ⟨3, ![2, 4096, 10240]⟩
abbrev S16384x10240 : Shape := ⟨2, ![16384, 10240]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x10240, .f32⟩
  | .hbm, ⟨2, _⟩ => ⟨S2x4096x10240, .bf16⟩
  | .hbm, ⟨3, _⟩ => ⟨S16384x10240, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x4096 : Shape := ⟨2, ![16384, 4096]⟩
abbrev S2x4096x10240 : Shape := ⟨3, ![2, 4096, 10240]⟩
abbrev S1x4096x10240 : Shape := ⟨3, ![1, 4096, 10240]⟩
abbrev S4096x10240 : Shape := ⟨2, ![4096, 10240]⟩
abbrev S16384x10240 : Shape := ⟨2, ![16384, 10240]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x10240, .f32⟩
  | .hbm, ⟨2, _⟩ => ⟨S16384x4096, .f32⟩
  | .hbm, ⟨3, _⟩ => ⟨S1x4096x10240, .f32⟩
  | .hbm, ⟨4, _⟩ => ⟨S4096x10240, .f32⟩
  | .hbm, ⟨5, _⟩ => ⟨S16384x10240, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16384x1024 : Shape := ⟨2, ![16384, 1024]⟩
abbrev S16384x2048 : Shape := ⟨2, ![16384, 2048]⟩
abbrev S2x4096x4096 : Shape := ⟨3, ![2, 4096, 4096]⟩
abbrev S16384x4096 : Shape := ⟨2, ![16384, 4096]⟩
abbrev S1024x1024 : Shape := ⟨2, ![1024, 1024]⟩
abbrev S1024x2048 : Shape := ⟨2, ![1024, 2048]⟩
abbrev S1x1024x1024 : Shape := ⟨3, ![1, 1024, 1024]⟩
abbrev S1x2048x1024 : Shape := ⟨3, ![1, 2048, 1024]⟩
abbrev S2048x1024 : Shape := ⟨2, ![2048, 1024]⟩

abbrev nBuf : Space → Nat
  | .hbm => 7
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S2x4096x4096, .f32⟩
  | .hbm, ⟨4, _⟩ => ⟨S16384x4096, .f32⟩
  | .hbm, ⟨5, _⟩ => ⟨S2x4096x4096, .bf16⟩
  | .hbm, ⟨6, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S16384x1024 : Shape := ⟨2, ![16384, 1024]⟩
abbrev S16384x2048 : Shape := ⟨2, ![16384, 2048]⟩
abbrev S2x4096x4096 : Shape := ⟨3, ![2, 4096, 4096]⟩
abbrev S16384x4096 : Shape := ⟨2, ![16384, 4096]⟩
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S2x4096x4096, .f32⟩
  | .hbm, ⟨4, _⟩ => ⟨S16384x4096, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S16384x4096, .f32⟩
  | .hbm, ⟨9, _⟩ => ⟨S1x4096x4096, .f32⟩
  | .hbm, ⟨10, _⟩ => ⟨S4096x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel6.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .f32⟩
  | .hbm, ⟨6, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel7.lean ====
abbrev S16384x10240 : Shape := ⟨2, ![16384, 10240]⟩
abbrev S2x128 : Shape := ⟨2, ![2, 128]⟩
abbrev S32 : Shape := ⟨1, ![32]⟩
abbrev S64 : Shape := ⟨1, ![64]⟩
abbrev S32x64 : Shape := ⟨2, ![32, 64]⟩
abbrev S2048 : Shape := ⟨1, ![2048]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S128 : Shape := ⟨1, ![128]⟩
abbrev S1x128 : Shape := ⟨2, ![1, 128]⟩
abbrev S16384x2048 : Shape := ⟨2, ![16384, 2048]⟩
abbrev S16384x512 : Shape := ⟨2, ![16384, 512]⟩
abbrev S512x16384 : Shape := ⟨2, ![512, 16384]⟩
abbrev S1024x1024 : Shape := ⟨2, ![1024, 1024]⟩
abbrev S1024x128 : Shape := ⟨2, ![1024, 128]⟩
abbrev S1024x2048 : Shape := ⟨2, ![1024, 2048]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 65
  | .vmem => 20
  | .smem => 0
  | _ => 0

abbrev bufTy : (tb : Table) → Fin (tcTables nBuf tb) → BufTy
  | .hbm, ⟨0, _⟩ => ⟨S16384x10240, .f32⟩
  | .hbm, ⟨1, _⟩ => ⟨S2x128, .f32⟩
  | .hbm, ⟨2, _⟩ => ⟨S2x128, .f32⟩
  | .hbm, ⟨3, _⟩ => ⟨S32, .i32⟩
  | .hbm, ⟨4, _⟩ => ⟨S64, .i32⟩
  | .hbm, ⟨5, _⟩ => ⟨S32x64, .i32⟩
  | .hbm, ⟨6, _⟩ => ⟨S32x64, .i32⟩
  | .hbm, ⟨7, _⟩ => ⟨S2048, .i32⟩
  | .hbm, ⟨8, _⟩ => ⟨S2048, .f32⟩
  | .hbm, ⟨9, _⟩ => ⟨S2048, .i32⟩
  | .hbm, ⟨10, _⟩ => ⟨S2048, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S2048x128, .f32⟩
  | .hbm, ⟨46, _⟩ => ⟨S_, .f32⟩
  | .hbm, ⟨47, _⟩ => ⟨S_, .f32⟩
  | .hbm, ⟨48, _⟩ => ⟨S2048x128, .i1⟩
  | .hbm, ⟨49, _⟩ => ⟨S2048x128, .f32⟩
  | .hbm, ⟨50, _⟩ => ⟨S2048x128, .f32⟩
  | .hbm, ⟨51, _⟩ => ⟨S_, .f32⟩
  | .hbm, ⟨52, _⟩ => ⟨S_, .f32⟩
  | .hbm, ⟨53, _⟩ => ⟨S2048x128, .i1⟩
  | .hbm, ⟨54, _⟩ => ⟨S2048x128, .f32⟩
  | .hbm, ⟨55, _⟩ => ⟨S2048x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S1x128, .f32⟩
  | .hbm, ⟨62, _⟩ => ⟨S16384x2048, .bf16⟩
  | .hbm, ⟨63, _⟩ => ⟨S16384x512, .bf16⟩
  | .hbm, ⟨64, _⟩ => ⟨S512x16384, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x128, .f32⟩
  | .local _ .vmem, ⟨13, _⟩ => ⟨S1x128, .f32⟩
  | .local _ .vmem, ⟨14, _⟩ => ⟨S1024x2048, .bf16⟩
  | .local _ .vmem, ⟨15, _⟩ => ⟨S1024x2048, .bf16⟩
  | .local _ .vmem, ⟨16, _⟩ => ⟨S1024x512, .bf16⟩
  | .local _ .vmem, ⟨17, _⟩ => ⟨S1024x512, .bf16⟩
  | .local _ .vmem, ⟨18, _⟩ => ⟨S512x1024, .bf16⟩
  | .local _ .vmem, ⟨19, _⟩ => ⟨S512x1024, .bf16⟩
  | _, _ => ⟨S16384x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v37 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45_0 : Ref sig .tc := ⟨.hbm, 62, rfl⟩
abbrev main_v45_1 : Ref sig .tc := ⟨.hbm, 63, rfl⟩
abbrev main_v45_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S16384x10240 : Shape := ⟨2, ![16384, 10240]⟩
abbrev S2x128 : Shape := ⟨2, ![2, 128]⟩
abbrev S8x2048x10240 : Shape := ⟨3, ![8, 2048, 10240]⟩
abbrev S8x2048x3072 : Shape := ⟨3, ![8, 2048, 3072]⟩
abbrev S32 : Shape := ⟨1, ![32]⟩
abbrev S64 : Shape := ⟨1, ![64]⟩
abbrev S32x64 : Shape := ⟨2, ![32, 64]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8x2048x2048 : Shape := ⟨3, ![8, 2048, 2048]⟩
abbrev S8x2048x16x128 : Shape := ⟨4, ![8, 2048, 16, 128]⟩
abbrev S1x128 : Shape := ⟨2, ![1, 128]⟩
abbrev S128 : Shape := ⟨1, ![128]⟩
abbrev S8x2048x16 : Shape := ⟨3, ![8, 2048, 16]⟩
abbrev S8x2048x16x1 : Shape := ⟨4, ![8, 2048, 16, 1]⟩
abbrev S1x1x1x128 : Shape := ⟨4, ![1, 1, 1, 128]⟩
abbrev S8x2048x16x32 : Shape := ⟨4, ![8, 2048, 16, 32]⟩
abbrev S2048x1x128 : Shape := ⟨3, ![2048, 1, 128]⟩
abbrev S1x2048x1x128 : Shape := ⟨4, ![1, 2048, 1, 128]⟩
abbrev S8x2048x512 : Shape := ⟨3, ![8, 2048, 512]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S8x2048x4x32 : Shape := ⟨4, ![8, 2048, 4, 32]⟩
abbrev S16384x2048 : Shape := ⟨2, ![16384, 2048]⟩
abbrev S16384x512 : Shape := ⟨2, ![16384, 512]⟩
abbrev S512x16384 : Shape := ⟨2, ![512, 16384]⟩

abbrev nBuf : Space → Nat
  | .hbm => 120
  | .vmem => 0
  | .smem => 0
  | _ => 0

abbrev bufTy : (tb : Table) → Fin (tcTables nBuf tb) → BufTy
  | .hbm, ⟨0, _⟩ => ⟨S16384x10240, .f32⟩
  | .hbm, ⟨1, _⟩ => ⟨S2x128, .f32⟩
  | .hbm, ⟨2, _⟩ => ⟨S2x128, .f32⟩
  | .hbm, ⟨3, _⟩ => ⟨S8x2048x10240, .f32⟩
  | .hbm, ⟨4, _⟩ => ⟨S8x2048x3072, .f32⟩
  | .hbm, ⟨5, _⟩ => ⟨S32, .i32⟩
  | .hbm, ⟨6, _⟩ => ⟨S64, .i32⟩
  | .hbm, ⟨7, _⟩ => ⟨S32x64, .i32⟩
  | .hbm, ⟨8, _⟩ => ⟨S32x64, .i32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048, .i32⟩
  | .hbm, ⟨24, _⟩ => ⟨S2048, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048, .i32⟩
  | .hbm, ⟨31, _⟩ => ⟨S2048, .f32⟩
  | .hbm, ⟨32, _⟩ => ⟨S2048x1, .f32⟩
  | .hbm, ⟨33, _⟩ => ⟨S1x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x128, .f32⟩
  | .hbm, ⟨38, _⟩ => ⟨S2048x128, .f32⟩
  | .hbm, ⟨39, _⟩ => ⟨S2048x128, .f32⟩
  | .hbm, ⟨40, _⟩ => ⟨S8x2048x2048, .f32⟩
  | .hbm, ⟨41, _⟩ => ⟨S8x2048x16x128, .f32⟩
  | .hbm, ⟨42, _⟩ => ⟨S1x128, .f32⟩
  | .hbm, ⟨43, _⟩ => ⟨S128, .f32⟩
  | .hbm, ⟨44, _⟩ => ⟨S8x2048x16x128, .f32⟩
  | .hbm, ⟨45, _⟩ => ⟨S_, .f32⟩
  | .hbm, ⟨46, _⟩ => ⟨S8x2048x16, .f32⟩
  | .hbm, ⟨47, _⟩ => ⟨S8x2048x16x1, .f32⟩
  | .hbm, ⟨48, _⟩ => ⟨S_, .f32⟩
  | .hbm, ⟨49, _⟩ => ⟨S8x2048x16x1, .f32⟩
  | .hbm, ⟨50, _⟩ => ⟨S8x2048x16x1, .f32⟩
  | .hbm, ⟨51, _⟩ => ⟨S_, .f32⟩
  | .hbm, ⟨52, _⟩ => ⟨S8x2048x16x1, .f32⟩
  | .hbm, ⟨53, _⟩ => ⟨S8x2048x16x1, .f32⟩
  | .hbm, ⟨54, _⟩ => ⟨S8x2048x16x1, .f32⟩
  | .hbm, ⟨55, _⟩ => ⟨S8x2048x16x128, .f32⟩
  | .hbm, ⟨56, _⟩ => ⟨S8x2048x16x128, .f32⟩
  | .hbm, ⟨57, _⟩ => ⟨S1x1x1x128, .f32⟩
  | .hbm, ⟨58, _⟩ => ⟨S8x2048x16x128, .f32⟩
  | .hbm, ⟨59, _⟩ => ⟨S8x2048x16x128, .f32⟩
  | .hbm, ⟨60, _⟩ => ⟨S8x2048x16x32, .f32⟩
  | .hbm, ⟨61, _⟩ => ⟨S8x2048x16x32, .f32⟩
  | .hbm, ⟨62, _⟩ => ⟨S8x2048x16x32, .f32⟩
  | .hbm, ⟨63, _⟩ => ⟨S8x2048x16x32, .f32⟩
  | .hbm, ⟨64, _⟩ => ⟨S8x2048x16x32, .f32⟩
  | .hbm, ⟨65, _⟩ => ⟨S8x2048x16x32, .f32⟩
  | .hbm, ⟨66, _⟩ => ⟨S8x2048x16x128, .f32⟩
  | .hbm, ⟨67, _⟩ => ⟨S2048x1x128, .f32⟩
  | .hbm, ⟨68, _⟩ => ⟨S1x2048x1x128, .f32⟩
  | .hbm, ⟨69, _⟩ => ⟨S8x2048x16x128, .f32⟩
  | .hbm, ⟨70, _⟩ => ⟨S8x2048x16x128, .f32⟩
  | .hbm, ⟨71, _⟩ => ⟨S2048x1x128, .f32⟩
  | .hbm, ⟨72, _⟩ => ⟨S1x2048x1x128, .f32⟩
  | .hbm, ⟨73, _⟩ => ⟨S8x2048x16x128, .f32⟩
  | .hbm, ⟨74, _⟩ => ⟨S8x2048x16x128, .f32⟩
  | .hbm, ⟨75, _⟩ => ⟨S8x2048x16x128, .f32⟩
  | .hbm, ⟨76, _⟩ => ⟨S8x2048x512, .f32⟩
  | .hbm, ⟨77, _⟩ => ⟨S8x2048x4x128, .f32⟩
  | .hbm, ⟨78, _⟩ => ⟨S1x128, .f32⟩
  | .hbm, ⟨79, _⟩ => ⟨S128, .f32⟩
  | .hbm, ⟨80, _⟩ => ⟨S8x2048x4x128, .f32⟩
  | .hbm, ⟨81, _⟩ => ⟨S_, .f32⟩
  | .hbm, ⟨82, _⟩ => ⟨S8x2048x4, .f32⟩
  | .hbm, ⟨83, _⟩ => ⟨S8x2048x4x1, .f32⟩
  | .hbm, ⟨84, _⟩ => ⟨S_, .f32⟩
  | .hbm, ⟨85, _⟩ => ⟨S8x2048x4x1, .f32⟩
  | .hbm, ⟨86, _⟩ => ⟨S8x2048x4x1, .f32⟩
  | .hbm, ⟨87, _⟩ => ⟨S_, .f32⟩
  | .hbm, ⟨88, _⟩ => ⟨S8x2048x4x1, .f32⟩
  | .hbm, ⟨89, _⟩ => ⟨S8x2048x4x1, .f32⟩
  | .hbm, ⟨90, _⟩ => ⟨S8x2048x4x1, .f32⟩
  | .hbm, ⟨91, _⟩ => ⟨S8x2048x4x128, .f32⟩
  | .hbm, ⟨92, _⟩ => ⟨S8x2048x4x128, .f32⟩
  | .hbm, ⟨93, _⟩ => ⟨S1x1x1x128, .f32⟩
  | .hbm, ⟨94, _⟩ => ⟨S8x2048x4x128, .f32⟩
  | .hbm, ⟨95, _⟩ => ⟨S8x2048x4x128, .f32⟩
  | .hbm, ⟨96, _⟩ => ⟨S8x2048x4x32, .f32⟩
  | .hbm, ⟨97, _⟩ => ⟨S8x2048x4x32, .f32⟩
  | .hbm, ⟨98, _⟩ => ⟨S8x2048x4x32, .f32⟩
  | .hbm, ⟨99, _⟩ => ⟨S8x2048x4x32, .f32⟩
  | .hbm, ⟨100, _⟩ => ⟨S8x2048x4x32, .f32⟩
  | .hbm, ⟨101, _⟩ => ⟨S8x2048x4x32, .f32⟩
  | .hbm, ⟨102, _⟩ => ⟨S8x2048x4x128, .f32⟩
  | .hbm, ⟨103, _⟩ => ⟨S2048x1x128, .f32⟩
  | .hbm, ⟨104, _⟩ => ⟨S1x2048x1x128, .f32⟩
  | .hbm, ⟨105, _⟩ => ⟨S8x2048x4x128, .f32⟩
  | .hbm, ⟨106, _⟩ => ⟨S8x2048x4x128, .f32⟩
  | .hbm, ⟨107, _⟩ => ⟨S2048x1x128, .f32⟩
  | .hbm, ⟨108, _⟩ => ⟨S1x2048x1x128, .f32⟩
  | .hbm, ⟨109, _⟩ => ⟨S8x2048x4x128, .f32⟩
  | .hbm, ⟨110, _⟩ => ⟨S8x2048x4x128, .f32⟩
  | .hbm, ⟨111, _⟩ => ⟨S8x2048x4x128, .f32⟩
  | .hbm, ⟨112, _⟩ => ⟨S16384x2048, .f32⟩
  | .hbm, ⟨113, _⟩ => ⟨S16384x2048, .bf16⟩
  | .hbm, ⟨114, _⟩ => ⟨S16384x512, .f32⟩
  | .hbm, ⟨115, _⟩ => ⟨S16384x512, .bf16⟩
  | .hbm, ⟨116, _⟩ => ⟨S8x2048x512, .f32⟩
  | .hbm, ⟨117, _⟩ => ⟨S16384x512, .f32⟩
  | .hbm, ⟨118, _⟩ => ⟨S512x16384, .f32⟩
  | .hbm, ⟨119, _⟩ => ⟨S512x16384, .bf16⟩
  | _, _ => ⟨S16384x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_6 : Ref sig .tc := ⟨.hbm, 81, rfl⟩
abbrev main_v71 : Ref sig .tc := ⟨.hbm, 82, rfl⟩
abbrev main_v72 : Ref sig .tc := ⟨.hbm, 83, rfl⟩
abbrev main_cst_7 : Ref sig .tc := ⟨.hbm, 84, rfl⟩
abbrev main_v73 : Ref sig .tc := ⟨.hbm, 85, rfl⟩
abbrev main_v74 : Ref sig .tc := ⟨.hbm, 86, rfl⟩
abbrev main_cst_8 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩

abbrev nD : Nat := 1
abbrev τ : Topo := Topo.v7x

variable {F : FTy → Type} [FloatOps F]
-- ==== Proof.Softmax.lean ====
module

public import Idealize.ShloMosaic.Lib.Pipeline.ValueKit

/-! The softmax-weighted sum of one row over the extended reals: what shift the exponentials take, and whether one divides by their total before or after the
    weighted sum, does not change the sum. -/

@[expose] public section

noncomputable section

open Idealize.ShloMosaic
open scoped BigOperators

namespace Cert.Softmax

/-- A finite sum of reals is a real. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A finite sum of real values is a real. -/
theorem sum_real {ι : Type} (s : Finset ι) (f : ι → EReal) (h : ∀ k, ∃ r : ℝ, f k = r) : ∃ r : ℝ, ∑ k ∈ s, f k = r := by
  choose g hg using h
  exact ⟨∑ k ∈ s, g k, by rw [← coe_sum]; exact Finset.sum_congr rfl fun k _ => hg k⟩

/-- A product of two real values is a real. -/
theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- The maximum of two real values is a real. -/
theorem max_real {x y : EReal} (hx : ∃ r : ℝ, x = r) (hy : ∃ r : ℝ, y = r) : ∃ r : ℝ, max x y = r := by
  rcases max_choice x y with h | h <;> rw [h] <;> assumption

/-- The same of two arrays' maximum at an index. -/
theorem maximumf_real {s : Shape} (v w : FVec Ideal s .f32) (i : s.Idx) (hx : ∃ r : ℝ, (v i : EReal) = r) (hy : ∃ r : ℝ, (w i : EReal) = r) :
    ∃ r : ℝ, (maximumf v w i : EReal) = r := max_real hx hy

/-- The maximum of minus infinity and a real value is a real. -/
theorem maximumf_low_real {s : Shape} (v w : FVec Ideal s .f32) (i : s.Idx) (hx : (v i : EReal) = ⊥) (hy : ∃ r : ℝ, (w i : EReal) = r) :
    ∃ r : ℝ, (maximumf v w i : EReal) = r := by
  obtain ⟨a, ha⟩ := hy
  exact ⟨a, (congrArg₂ (fun x y : EReal => max x y) hx ha).trans (max_bot_left _)⟩

/-- The maximum of minus infinity and finitely many real values, at least one, is a real. -/
theorem fold_max_real {ι : Type} (s : Finset ι) (hs : s.Nonempty) (f : ι → EReal) (h : ∀ k, ∃ r : ℝ, f k = r) :
    ∃ r : ℝ, s.fold max ⊥ f = r := by
  classical
  induction hs using Finset.Nonempty.cons_induction with
  | singleton a => rw [Finset.fold_singleton, max_bot_right]; exact h a
  | cons a s ha hs ih => rw [Finset.fold_cons]; exact max_real (h a) ih

/-- A nonnegative real factor goes into a finite sum of extended reals. -/
theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- Dividing by a nonzero real is multiplying by its inverse. -/
theorem div_coe (x : EReal) {c : ℝ} (hc : c ≠ 0) : Ideal.div x (c : EReal) = x * ((c⁻¹ : ℝ) : EReal) := by
  rw [Ideal.div, if_neg (by simpa using hc), EReal.coe_inv]

/-- Base two with the exponent over `log 2` is base `e`. -/
theorem exp2_scaled (x w : ℝ) : Ideal.exp2 ((x : EReal) * ((w * (Real.log 2)⁻¹ : ℝ) : EReal)) = ((Real.exp (x * w) : ℝ) : EReal) := by
  rw [← EReal.coe_mul, Ideal.exp2_coe]
  congr 1
  refine (Real.rpow_def_of_pos (by norm_num : (0 : ℝ) < 2) _).trans ?_
  congr 1
  have h : Real.log 2 ≠ 0 := (Real.log_pos (by norm_num)).ne'
  field_simp

/-- The weighted sum divided by the total of the weights, in base two and shifted by any real, is the sum weighted by the normalised exponentials shifted by any
    other real. -/
theorem row {n : ℕ} (hn : 0 < n) (s : Fin n → ℝ) (a b w : ℝ) (v : Fin n → EReal) :
    Ideal.div (∑ k, v k * Ideal.exp2 (((s k : EReal) - a) * ((w * (Real.log 2)⁻¹ : ℝ) : EReal)))
        (∑ k, Ideal.exp2 (((s k : EReal) - a) * ((w * (Real.log 2)⁻¹ : ℝ) : EReal)))
      = ∑ k, v k * Ideal.div (Ideal.exp ((s k : EReal) * w - b)) (0 + ∑ j, Ideal.exp ((s j : EReal) * w - b)) := by
  haveI : Nonempty (Fin n) := ⟨⟨0, hn⟩⟩
  have h2 : ∀ k, Ideal.exp2 (((s k : EReal) - a) * ((w * (Real.log 2)⁻¹ : ℝ) : EReal)) = ((Real.exp ((s k - a) * w) : ℝ) : EReal) := fun k => by
    rw [← EReal.coe_sub, exp2_scaled]
  have h1 : ∀ k, Ideal.exp ((s k : EReal) * w - b) = ((Real.exp (s k * w - b) : ℝ) : EReal) := fun k => by
    rw [← EReal.coe_mul, ← EReal.coe_sub, Ideal.exp_coe]
  simp only [h1, h2, coe_sum, zero_add]
  have hp : 0 < ∑ k, Real.exp ((s k - a) * w) := Finset.sum_pos (fun k _ => Real.exp_pos _) Finset.univ_nonempty
  have hq : 0 < ∑ k, Real.exp (s k * w - b) := Finset.sum_pos (fun k _ => Real.exp_pos _) Finset.univ_nonempty
  rw [div_coe _ hp.ne', sum_mul_coe _ _ _ (inv_nonneg.2 hp.le)]
  refine Finset.sum_congr rfl fun k _ => ?_
  rw [div_coe _ hq.ne', mul_assoc, ← EReal.coe_mul, ← EReal.coe_mul]
  congr 2
  have hs : ∑ j, Real.exp ((s j - a) * w) = Real.exp (b - a * w) * ∑ j, Real.exp (s j * w - b) := by
    rw [Finset.mul_sum]
    exact Finset.sum_congr rfl fun j _ => by rw [← Real.exp_add]; congr 1; ring
  have he : Real.exp ((s k - a) * w) = Real.exp (b - a * w) * Real.exp (s k * w - b) := by
    rw [← Real.exp_add]; congr 1; ring
  rw [hs, he, mul_inv]
  have := (Real.exp_pos (b - a * w)).ne'
  field_simp

/-- The f32 pattern of minus infinity. -/
theorem ofBits_low : Ideal.ofBits .f32 0xFF800000#32 = ⊥ := by
  simp [Ideal.ofBits, Ideal.ieee]

/-- The f32 pattern of the score scale. -/
theorem ofBits_scale : Ideal.ofBits .f32 0x3DB504F3#32 = ((11863283 / 134217728 : ℝ) : EReal) := by
  simp [Ideal.ofBits, Ideal.ieee, -EReal.coe_mul]; norm_num

/-- A value whose magnitude is below infinity is a real. -/
theorem real_of_abs_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- A sum over 2048 terms is the sum over the first 1024 plus the sum over the last 1024. -/
theorem halves (f : Fin 2048 → EReal) :
    ∑ k, f k = (∑ x : Fin 1024, f ⟨x.val, by omega⟩) + ∑ x : Fin 1024, f ⟨1024 + x.val, by omega⟩ :=
  Fin.sum_univ_add (a := 1024) (b := 1024) f

end Cert.Softmax

end

end
-- ==== Proof.AttnRef.lean ====
module

public import proofs.«01_k».proof.Proof.Gen.ReferenceIdeal.Run
public import proofs.«01_k».proof.Proof.Softmax
public import Idealize.ShloMosaic.Lib.Pipeline.ValueKit
public import Idealize.ShloMosaic.Lib.Pipeline.ReadBack

/-! Grouped attention: sixteen query heads over four key and value heads, each row of scores through a softmax. -/

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.Value

open Cert.ReferenceIdeal.Gen

/-- Every query against every key of its sequence and group, times the scale. -/
def scores (q : FVec Ideal S16384x2048 .bf16) (k : FVec Ideal S16384x512 .bf16) : FVec Ideal S8x4x4x2048x2048 .f32 :=
  mulf (transpose S8x4x4x2048x2048 [0, 1, 4, 3, 2]
      (Host.dotGeneral dot_S8x2048x4x128_S8x2048x4x4x128_S8x4x2048x2048x4_3_4_1_13_02_02 none
        (shapeCast _ (extf .f32 k bitsLt_bf16_f32) shapeCasts_S16384x512_S8x2048x4x128)
        (shapeCast _ (extf .f32 q bitsLt_bf16_f32) shapeCasts_S16384x2048_S8x2048x4x4x128))
      transposes_S8x4x2048x2048x4_S8x4x4x2048x2048_0_1_4_3_2)
    (broadcastInDim S8x4x4x2048x2048 ![] bcast_S_S8x4x4x2048x2048 (constant S_ .f32 0x3DB504F3#32))

/-- The largest score of each row. -/
def top (s : FVec Ideal S8x4x4x2048x2048 .f32) : FVec Ideal S8x4x4x2048 .f32 :=
  maximumf (broadcastInDim S8x4x4x2048 ![] bcast_S_S8x4x4x2048 (constant S_ .f32 0xFF800000#32))
    (Host.reduce FloatOps.maximumf s (constant S_ .f32 0xFF800000#32) reducesTo_S8x4x4x2048x2048_S8x4x4x2048_d4 h_S_)

/-- The exponential of each score less its row's largest. -/
def grown (s : FVec Ideal S8x4x4x2048x2048 .f32) : FVec Ideal S8x4x4x2048x2048 .f32 :=
  Host.exp (subf s (broadcastInDim S8x4x4x2048x2048 ![0, 1, 2, 3, 4] bcast_S8x4x4x2048x1_S8x4x4x2048x2048_0_1_2_3_4
    (broadcastInDim S8x4x4x2048x1 ![0, 1, 2, 3] bcast_S8x4x4x2048_S8x4x4x2048x1_0_1_2_3 (top s))))

/-- Each exponential over its row's total. -/
def weights (e : FVec Ideal S8x4x4x2048x2048 .f32) : FVec Ideal S8x4x4x2048x2048 .f32 :=
  Host.divf e (broadcastInDim S8x4x4x2048x2048 ![0, 1, 2, 3, 4] bcast_S8x4x4x2048x1_S8x4x4x2048x2048_0_1_2_3_4
    (broadcastInDim S8x4x4x2048x1 ![0, 1, 2, 3] bcast_S8x4x4x2048_S8x4x4x2048x1_0_1_2_3
      (Host.reduceAdd e (constant S_ .f32 0x00000000#32) reducesTo_S8x4x4x2048x2048_S8x4x4x2048_d4 h_S_)))

/-- The attention: each query's values weighted by the softmax of its scores. -/
def attend (q : FVec Ideal S16384x2048 .bf16) (k : FVec Ideal S16384x512 .bf16) (v : FVec Ideal S512x16384 .bf16) : FVec Ideal S16384x2048 .bf16 :=
  truncf .bf16 (shapeCast _ (transpose S8x2048x4x4x128 [0, 4, 1, 3, 2]
    (Host.dotGeneral dot_S8x2048x4x128_S8x4x4x2048x2048_S8x4x128x4x2048_1_4_3_23_02_01 none
      (shapeCast _ (transpose S16384x512 [1, 0] (extf .f32 v bitsLt_bf16_f32) transposes_S512x16384_S16384x512_1_0) shapeCasts_S16384x512_S8x2048x4x128)
      (weights (grown (scores q k))))
    transposes_S8x4x128x4x2048_S8x2048x4x4x128_0_4_1_3_2) shapeCasts_S8x2048x4x4x128_S16384x2048) bitsLt_bf16_f32

/-- One score: the key's row against the query's, times the scale. -/
theorem scores_apply (q : FVec Ideal S16384x2048 .bf16) (k : FVec Ideal S16384x512 .bf16) (b : Fin 8) (h g : Fin 4) (s x : Fin 2048) :
    scores q k (ix5 b h g s x)
      = (∑ d : Fin 128, k (ix2 ⟨b.val * 2048 + x.val, by omega⟩ ⟨h.val * 128 + d.val, by omega⟩)
          * q (ix2 ⟨b.val * 2048 + s.val, by omega⟩ ⟨h.val * 512 + g.val * 128 + d.val, by omega⟩)) * Ideal.ofBits .f32 0x3DB504F3#32 := by
  pointwise [scores]

/-- One exponential: the score less its row's largest. -/
theorem grown_apply (q : FVec Ideal S8x4x4x2048x2048 .f32) (b : Fin 8) (h g : Fin 4) (s x : Fin 2048) :
    grown q (ix5 b h g s x) = Ideal.exp (q (ix5 b h g s x) - top q (ix4 b h g s)) := by
  pointwise [grown]

/-- One weight: the exponential over its row's total. -/
theorem weights_apply (e : FVec Ideal S8x4x4x2048x2048 .f32) (b : Fin 8) (h g : Fin 4) (s x : Fin 2048) :
    weights e (ix5 b h g s x) = Ideal.div (e (ix5 b h g s x)) (∑ j : Fin 2048, e (ix5 b h g s j)) := by
  pointwise [weights]

/-- A row's largest score, read as a fold of maxima. -/
theorem largest_apply (q : FVec Ideal S8x4x4x2048x2048 .f32) (b : Fin 8) (h g : Fin 4) (s : Fin 2048) :
    Host.reduce FloatOps.maximumf q (constant S_ .f32 0xFF800000#32) reducesTo_S8x4x4x2048x2048_S8x4x4x2048_d4 h_S_ (ix4 b h g s)
      = Finset.univ.fold max (Ideal.ofBits .f32 0xFF800000#32) fun x : Fin 2048 => q (ix5 b h g s x) := by
  pointwise []

/-- A row's largest score is a real when its scores are. -/
theorem top_real (q : FVec Ideal S8x4x4x2048x2048 .f32) (b : Fin 8) (h g : Fin 4) (s : Fin 2048)
    (hq : ∀ x : Fin 2048, ∃ r : ℝ, q (ix5 b h g s x) = r) : ∃ r : ℝ, top q (ix4 b h g s) = r := by
  unfold top
  apply Softmax.maximumf_low_real
  · pointwise []
    exact Softmax.ofBits_low
  · rw [largest_apply, Softmax.ofBits_low]
    exact Softmax.fold_max_real Finset.univ Finset.univ_nonempty _ hq

/-- One entry of the attention. -/
theorem attend_apply (q : FVec Ideal S16384x2048 .bf16) (k : FVec Ideal S16384x512 .bf16) (v : FVec Ideal S512x16384 .bf16)
    (b : Fin 8) (h g : Fin 4) (s : Fin 2048) (d : Fin 128) :
    attend q k v (ix2 ⟨b.val * 2048 + s.val, by omega⟩ ⟨h.val * 512 + g.val * 128 + d.val, by omega⟩)
      = ∑ x : Fin 2048, v (ix2 ⟨h.val * 128 + d.val, by omega⟩ ⟨b.val * 2048 + x.val, by omega⟩)
          * weights (grown (scores q k)) (ix5 b h g s x) := by
  pointwise [attend]

end Cert.ReferenceIdeal.Value

end

end
-- ==== Proof.Attention.lean ====
module

public import proofs.«01_k».proof.Proof.Gen.KernelIdeal.Frame
public import proofs.«01_k».proof.Proof.AttnRef
public import Idealize.ShloMosaic.Lib.Pipeline.ValueKit
public import Idealize.ShloMosaic.Lib.Pipeline.ReadBack

/-! The attention's stored blocks, head by head, and the result array. -/

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

/-- One head of one sequence, as the first head's stores spell it. -/
def head (K : Vec Ideal S2048x128 .bf16) (V : Vec Ideal S128x2048 .bf16) (q : Vec Ideal S2048x128 .bf16) : FVec Ideal S2048x128 .bf16 :=
  k0_pay14 (k0_pay2 V) (k0_pay7 K q q) (k0_pay8 K q q (k0_pay4 K q)) (k0_pay6 K q)

/-- The first head's stores spell this function. -/
theorem head_zero (K : Vec Ideal S2048x128 .bf16) (V : Vec Ideal S128x2048 .bf16) (q : Vec Ideal S2048x128 .bf16) :
    k0_pay14 (k0_pay2 V) (k0_pay7 K q q) (k0_pay8 K q q (k0_pay4 K q)) (k0_pay6 K q) = head K V q := rfl

/-- The second head's stores spell the same function. -/
theorem head_one (K : Vec Ideal S2048x128 .bf16) (V : Vec Ideal S128x2048 .bf16) (q : Vec Ideal S2048x128 .bf16) :
    k0_pay23 (k0_pay2 V) (k0_pay19 (k0_pay2 V) (k0_pay13 K q q) (k0_pay10 K q)) (k0_pay20 (k0_pay13 K q q) (k0_pay12 K q)) = head K V q := rfl

/-- The third head's stores spell the same function. -/
theorem head_two (K : Vec Ideal S2048x128 .bf16) (V : Vec Ideal S128x2048 .bf16) (q : Vec Ideal S2048x128 .bf16) :
    k0_pay32 (k0_pay2 V) (k0_pay28 (k0_pay2 V) (k0_pay18 K q) (k0_pay21 K q) (k0_pay17 K q)) (k0_pay29 (k0_pay18 K q) (k0_pay21 K q) (k0_pay22 K q))
      = head K V q := rfl

/-- The fourth head's stores spell the same function. -/
theorem head_three (K : Vec Ideal S2048x128 .bf16) (V : Vec Ideal S128x2048 .bf16) (q : Vec Ideal S2048x128 .bf16) :
    k0_pay1 (k0_pay2 V) (k0_pay34 K (k0_pay2 V) (k0_pay27 K q) q (k0_pay26 K q)) (k0_pay35 (k0_pay31 K q)) (k0_pay36 K (k0_pay27 K q) q)
      = head K V q := rfl

/-- One score of a query row: the key's row against it. -/
def dotRow (K : Vec Ideal S2048x128 .bf16) (q : Vec Ideal S2048x128 .bf16) (r x : Fin 2048) : EReal := ∑ d : Fin 128, K (ix2 x d) * q (ix2 r d)

/-- The scores of the first 1024 keys. -/
theorem early_apply (K : Vec Ideal S2048x128 .bf16) (q : Vec Ideal S2048x128 .bf16) (x : Fin 1024) (r : Fin 2048) :
    k0_pay3 K q (ix2 x r) = dotRow K q r ⟨x.val, by omega⟩ := by
  pointwise [k0_pay3, dotRow]

/-- The scores of the last 1024 keys. -/
theorem late_apply (K : Vec Ideal S2048x128 .bf16) (q : Vec Ideal S2048x128 .bf16) (x : Fin 1024) (r : Fin 2048) :
    k0_pay5 K q (ix2 x r) = dotRow K q r ⟨1024 + x.val, by omega⟩ := by
  pointwise [k0_pay5, dotRow]

/-- The largest of each eighth row of half the scores. -/
theorem octet_apply (z : FVec Ideal S1024x2048 .f32) (a : Fin 8) (r : Fin 2048) :
    multiReduction .maximumf [0] S8x2048 (shapeCast S128x8x2048 z shapeCasts_S1024x2048_S128x8x2048) 0xFF800000#32 reduces_S128x8x2048_S8x2048
        (.inl rfl) rfl (ix2 a r)
      = Finset.univ.fold max (Ideal.ofBits .f32 0xFF800000#32) fun x : Fin 128 => (z (ix2 ⟨x.val * 8 + a.val, by omega⟩ r) : EReal) := by
  pointwise []

/-- The largest of eight. -/
theorem eight_apply (z : FVec Ideal S8x2048 .f32) (r : Fin 2048) :
    shapeCast S1x2048 (multiReduction .maximumf [0] S2048 z 0xFF800000#32 reduces_S8x2048_S2048 (.inl rfl) rfl) shapeCasts_S2048_S1x2048 (ix2 0 r)
      = Finset.univ.fold max (Ideal.ofBits .f32 0xFF800000#32) fun a : Fin 8 => (z (ix2 a r) : EReal) := by
  pointwise []

/-- The shift of a query row is a real when its scores are. -/
theorem shift_real (K : Vec Ideal S2048x128 .bf16) (q : Vec Ideal S2048x128 .bf16) (r : Fin 2048)
    (h : ∀ x, ∃ a : ℝ, dotRow K q r x = a) : ∃ a : ℝ, k0_pay7 K q q (ix2 0 r) = (a : EReal) := by
  have e : k0_pay7 K q q = shapeCast S1x2048 (multiReduction .maximumf [0] S2048
      (maximumf (multiReduction .maximumf [0] S8x2048 (shapeCast S128x8x2048 (k0_pay3 K q) shapeCasts_S1024x2048_S128x8x2048) 0xFF800000#32
          reduces_S128x8x2048_S8x2048 (.inl rfl) rfl)
        (multiReduction .maximumf [0] S8x2048 (shapeCast S128x8x2048 (k0_pay5 K q) shapeCasts_S1024x2048_S128x8x2048) 0xFF800000#32
          reduces_S128x8x2048_S8x2048 (.inl rfl) rfl)) 0xFF800000#32 reduces_S8x2048_S2048 (.inl rfl) rfl) shapeCasts_S2048_S1x2048 := rfl
  rw [e, eight_apply, Softmax.ofBits_low]
  refine Softmax.fold_max_real _ Finset.univ_nonempty _ fun a => ?_
  apply Softmax.maximumf_real
  · rw [octet_apply, Softmax.ofBits_low]
    exact Softmax.fold_max_real _ Finset.univ_nonempty _ fun x => by rw [early_apply]; exact h _
  · rw [octet_apply, Softmax.ofBits_low]
    exact Softmax.fold_max_real _ Finset.univ_nonempty _ fun x => by rw [late_apply]; exact h _

/-- The scale in base two is the reference's scale over `log 2`. -/
theorem scale_apply : (Named.named (F := Ideal) κ "scale_log2e" (φ := .f32) 0x3E0293EE#32 : EReal) = (((11863283 / 134217728) * (Real.log 2)⁻¹ : ℝ) : EReal) :=
  IdealRules.named_const.ideal_named_scalar _ _ _ _ rfl

/-- The exponentials of the first 1024 keys. -/
theorem early_exp (K : Vec Ideal S2048x128 .bf16) (q : Vec Ideal S2048x128 .bf16) (x : Fin 1024) (r : Fin 2048) :
    k0_pay8 K q q (k0_pay4 K q) (ix2 x r)
      = Ideal.exp2 ((k0_pay3 K q (ix2 x r) - k0_pay7 K q q (ix2 0 r)) * (((11863283 / 134217728) * (Real.log 2)⁻¹ : ℝ) : EReal)) := by
  rw [← scale_apply]
  pointwise [k0_pay8, k0_pay4]
  rfl

/-- One entry of a head: the values times the exponentials, over the total of the exponentials. -/
theorem total_apply (K : Vec Ideal S2048x128 .bf16) (V : Vec Ideal S128x2048 .bf16) (q : Vec Ideal S2048x128 .bf16) (p : FVec Ideal S1024x2048 .bf16)
    (r : Fin 2048) (d : Fin 128) :
    k0_pay14 (k0_pay2 V) (k0_pay7 K q q) p (k0_pay6 K q) (ix2 r d)
      = Ideal.div ((∑ x : Fin 1024, V (ix2 d ⟨x.val, by omega⟩) * p (ix2 x r))
          + ∑ x : Fin 1024, V (ix2 d ⟨1024 + x.val, by omega⟩)
              * Ideal.exp2 ((k0_pay5 K q (ix2 x r) - k0_pay7 K q q (ix2 0 r)) * (((11863283 / 134217728) * (Real.log 2)⁻¹ : ℝ) : EReal)))
          ((∑ x : Fin 1024, p (ix2 x r))
          + ∑ x : Fin 1024, Ideal.exp2 ((k0_pay5 K q (ix2 x r) - k0_pay7 K q q (ix2 0 r)) * (((11863283 / 134217728) * (Real.log 2)⁻¹ : ℝ) : EReal))) := by
  rw [← scale_apply]
  pointwise [k0_pay14, k0_pay2, k0_pay6, sumSplitAll]
  rfl

/-- One entry of a head is the values weighted by the softmax of the row's scores, whatever real the exponentials are shifted by. -/
theorem head_apply (K : Vec Ideal S2048x128 .bf16) (V : Vec Ideal S128x2048 .bf16) (q : Vec Ideal S2048x128 .bf16) (r : Fin 2048) (d : Fin 128)
    (h : ∀ x, ∃ a : ℝ, dotRow K q r x = a) (b : ℝ) :
    head K V q (ix2 r d) = ∑ x : Fin 2048, V (ix2 d x) * Ideal.div (Ideal.exp (dotRow K q r x * ((11863283 / 134217728 : ℝ) : EReal) - b))
      (∑ j : Fin 2048, Ideal.exp (dotRow K q r j * ((11863283 / 134217728 : ℝ) : EReal) - b)) := by
  obtain ⟨a, ha⟩ := shift_real K q r h
  choose s hs using h
  unfold head
  rw [total_apply]
  simp only [early_exp, early_apply, late_apply, ha]
  rw [← Softmax.halves fun x => V (ix2 d x) * Ideal.exp2 ((dotRow K q r x - (a : EReal)) * (((11863283 / 134217728) * (Real.log 2)⁻¹ : ℝ) : EReal)),
    ← Softmax.halves fun x => Ideal.exp2 ((dotRow K q r x - (a : EReal)) * (((11863283 / 134217728) * (Real.log 2)⁻¹ : ℝ) : EReal))]
  simp only [hs]
  rw [Softmax.row (by norm_num) s a b, zero_add]

variable (m : (ℓ : Loc nD τ sig) → Buf (Elt Ideal) ℓ)

/-- Which block each window reads or writes at grid point `t`: sequence `t / 4`, group `t % 4`. -/
theorem idx_val : ∀ t : Fin cfg0.N, win0_0.index t = ![t.val / 4, t.val % 4]
    ∧ win0_1.index t = ![t.val / 4, t.val % 4]
    ∧ win0_2.index t = ![t.val % 4, t.val / 4]
    ∧ win0_3.index t = ![t.val / 4, t.val % 4] :=
  (by decide +kernel : ∀ t : Fin grid0.N, _)

/-- There are 32 grid points. -/
theorem lt_points (t : Fin cfg0.N) : t.val < 32 := lt_of_lt_of_eq t.isLt (by decide +kernel : cfg0.N = 32)

/-- The key block at grid point `t`. -/
theorem keys_apply (c : Dev nD) (t : Fin cfg0.N) (x : Fin 2048) (d : Fin 128) :
    iblk m c 1 t (ix2 x d) = m ((c : Thread nD τ).loc main_arg1)
      (ix2 ⟨t.val / 4 * 2048 + x.val, by have := lt_points t; omega⟩ ⟨t.val % 4 * 128 + d.val, by omega⟩) := by
  blk_point [iblk, V, idx_val t]

/-- The value block at grid point `t`. -/
theorem values_apply (c : Dev nD) (t : Fin cfg0.N) (d : Fin 128) (x : Fin 2048) :
    iblk m c 2 t (ix2 d x) = m ((c : Thread nD τ).loc main_arg2)
      (ix2 ⟨t.val % 4 * 128 + d.val, by omega⟩ ⟨t.val / 4 * 2048 + x.val, by have := lt_points t; omega⟩) := by
  blk_point [iblk, V, idx_val t]

/-- The query block at grid point `t`. -/
theorem queries_apply (c : Dev nD) (t : Fin cfg0.N) (r : Fin 2048) (e : Fin 512) :
    iblk m c 0 t (ix2 r e) = m ((c : Thread nD τ).loc main_arg0)
      (ix2 ⟨t.val / 4 * 2048 + r.val, by have := lt_points t; omega⟩ ⟨t.val % 4 * 512 + e.val, by omega⟩) := by
  blk_point [iblk, V, idx_val t]

/-- One head at grid point `t` is the attention at the entries it covers, when the queries and keys are reals. -/
theorem core (c : Dev nD) (t : Fin cfg0.N) (g : Fin 4) (Q : Vec Ideal S2048x128 .bf16)
    (q : FVec Ideal S16384x2048 .bf16) (k : FVec Ideal S16384x512 .bf16) (v : FVec Ideal S512x16384 .bf16)
    (hq0 : m ((c : Thread nD τ).loc main_arg0) = q) (hk0 : m ((c : Thread nD τ).loc main_arg1) = k) (hv0 : m ((c : Thread nD τ).loc main_arg2) = v)
    (hQ : ∀ (r : Fin 2048) (d : Fin 128), Q (ix2 r d) = iblk m c 0 t (ix2 r ⟨g.val * 128 + d.val, by omega⟩))
    (hq : ∀ i, ∃ r : ℝ, q i = (r : EReal)) (hk : ∀ i, ∃ r : ℝ, k i = (r : EReal)) (r : Fin 2048) (d : Fin 128) :
    head (iblk m c 1 t) (iblk m c 2 t) Q (ix2 r d)
      = Cert.ReferenceIdeal.Value.attend q k v
        (ix2 ⟨t.val / 4 * 2048 + r.val, by have := lt_points t; omega⟩ ⟨t.val % 4 * 512 + g.val * 128 + d.val, by omega⟩) := by
  have ht := lt_points t
  have hdot : ∀ x : Fin 2048, dotRow (iblk m c 1 t) Q r x = ∑ e : Fin 128,
      k (ix2 ⟨t.val / 4 * 2048 + x.val, by omega⟩ ⟨t.val % 4 * 128 + e.val, by omega⟩)
      * q (ix2 ⟨t.val / 4 * 2048 + r.val, by omega⟩ ⟨t.val % 4 * 512 + g.val * 128 + e.val, by omega⟩) := fun x => by
    unfold dotRow
    refine Finset.sum_congr rfl fun e _ => ?_
    rw [keys_apply, hQ, queries_apply, hq0, hk0]
    simp only [Nat.add_assoc]
  have hreal : ∀ x : Fin 2048, ∃ a : ℝ, dotRow (iblk m c 1 t) Q r x = a := fun x => by
    rw [hdot]
    exact Softmax.sum_real _ _ fun e => Softmax.mul_real (hk _) (hq _)
  have hsc : ∀ x : Fin 2048, Cert.ReferenceIdeal.Value.scores q k
      (ix5 ⟨t.val / 4, by omega⟩ ⟨t.val % 4, by omega⟩ g r x) = dotRow (iblk m c 1 t) Q r x * ((11863283 / 134217728 : ℝ) : EReal) := fun x => by
    rw [Cert.ReferenceIdeal.Value.scores_apply, hdot, Softmax.ofBits_scale]
  obtain ⟨b, hb⟩ := Cert.ReferenceIdeal.Value.top_real (Cert.ReferenceIdeal.Value.scores q k)
    ⟨t.val / 4, by omega⟩ ⟨t.val % 4, by omega⟩ g r fun x => by
      rw [hsc]; exact Softmax.mul_real (hreal x) ⟨_, rfl⟩
  rw [head_apply _ _ _ _ _ hreal b]
  refine Eq.trans ?_ (Cert.ReferenceIdeal.Value.attend_apply q k v ⟨t.val / 4, by omega⟩ ⟨t.val % 4, by omega⟩ g r d).symm
  refine Finset.sum_congr rfl fun x _ => ?_
  rw [values_apply, Cert.ReferenceIdeal.Value.weights_apply, hv0]
  simp only [Cert.ReferenceIdeal.Value.grown_apply, hsc, hb]

/-- The same at any index of the head and of the result. -/
theorem core_at (c : Dev nD) (t : Fin cfg0.N) (g : Fin 4) (Q : Vec Ideal S2048x128 .bf16)
    (q : FVec Ideal S16384x2048 .bf16) (k : FVec Ideal S16384x512 .bf16) (v : FVec Ideal S512x16384 .bf16)
    (hq0 : m ((c : Thread nD τ).loc main_arg0) = q) (hk0 : m ((c : Thread nD τ).loc main_arg1) = k) (hv0 : m ((c : Thread nD τ).loc main_arg2) = v)
    (hQ : ∀ (r : Fin 2048) (d : Fin 128), Q (ix2 r d) = iblk m c 0 t (ix2 r ⟨g.val * 128 + d.val, by omega⟩))
    (hq : ∀ i, ∃ r : ℝ, q i = (r : EReal)) (hk : ∀ i, ∃ r : ℝ, k i = (r : EReal)) (x : S2048x128.Idx) (j : S16384x2048.Idx)
    (h0 : (j 0 : ℕ) = t.val / 4 * 2048 + (x 0 : ℕ)) (h1 : (j 1 : ℕ) = t.val % 4 * 512 + g.val * 128 + (x 1 : ℕ)) :
    head (iblk m c 1 t) (iblk m c 2 t) Q x = Cert.ReferenceIdeal.Value.attend q k v j := by
  have hx : x = ix2 (x 0) (x 1) := by funext a; fin_cases a <;> rfl
  have e := core m c t g Q q k v hq0 hk0 hv0 hQ hq hk (x 0) (x 1)
  refine (congrArg (head (iblk m c 1 t) (iblk m c 2 t) Q) hx).trans (e.trans (congrArg (Cert.ReferenceIdeal.Value.attend q k v) ?_))
  funext a
  fin_cases a
  · exact Fin.ext h0.symm
  · exact Fin.ext h1.symm

/-- The block stored at grid point `t` is the attention at the entries it covers. -/
theorem tile (c : Dev nD) (t : Fin cfg0.N)
    (hq : ∀ i, ∃ r : ℝ, m ((c : Thread nD τ).loc main_arg0) i = (r : EReal))
    (hk : ∀ i, ∃ r : ℝ, m ((c : Thread nD τ).loc main_arg1) i = (r : EReal)) (y : S2048x512.Idx) :
    outsAt0 m c t y = Cert.ReferenceIdeal.Value.attend (m ((c : Thread nD τ).loc main_arg0)) (m ((c : Thread nD τ).loc main_arg1))
      (m ((c : Thread nD τ).loc main_arg2)) (((cfg0.win 3).blk t).view.emb y) := by
  unfold outsAt0
  frame_open
  simp (disch := decide) only [↓ View.readCov_skip, ↓ View.readCov_cons_toLoadRect, ↓ View.readCov_fill]
  frame_out
  simp only [head_zero, head_one, head_two, head_three]
  canon_tiles x h
  case piece0 =>
    refine core_at m c t 3 _ _ _ _ rfl rfl rfl (fun r d => ?_) hq hk x _ ?_ ?_
    · pointwise []
    · blk_simp [idx_val t]; omega
    · blk_simp [idx_val t]; omega
  case piece1 =>
    refine core_at m c t 2 _ _ _ _ rfl rfl rfl (fun r d => ?_) hq hk x _ ?_ ?_
    · pointwise []
    · blk_simp [idx_val t]; omega
    · blk_simp [idx_val t]; omega
  case piece2 =>
    refine core_at m c t 1 _ _ _ _ rfl rfl rfl (fun r d => ?_) hq hk x _ ?_ ?_
    · pointwise []
    · blk_simp [idx_val t]; omega
    · blk_simp [idx_val t]; omega
  case piece3 =>
    refine core_at m c t 0 _ _ _ _ rfl rfl rfl (fun r d => ?_) hq hk x _ ?_ ?_
    · pointwise []
    · blk_simp [idx_val t]; omega
    · blk_simp [idx_val t]; omega

/-- After the run the result array is the attention. -/
theorem final (c : Dev nD)
    (hq : ∀ i, ∃ r : ℝ, m ((c : Thread nD τ).loc main_arg0) i = (r : EReal))
    (hk : ∀ i, ∃ r : ℝ, m ((c : Thread nD τ).loc main_arg1) i = (r : EReal)) :
    (dats m 0 c).arrAt 3 (cfgs 0).N = Cert.ReferenceIdeal.Value.attend (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp; rw [after0_3]
  exact tile m c t hq hk y

end Cert.KernelIdeal.Value

end

end
-- ==== Proof.FfnUpRun.lean ====
module

public import proofs.«01_k».proof.Proof.Gen.Kernel2Ideal.Frame
public import proofs.«01_k».proof.Proof.Gen.Kernel2Ideal.Skeleton
public import Idealize.ShloMosaic.Lib.VecWindow
public import Idealize.ShloMosaic.Lib.Pipeline.ReadBack
public import Idealize.ShloMosaic.Lib.Claim
public import Idealize.ShloMosaic.Lib.Pipeline.ValueKit

@[expose] public section

set_option maxRecDepth 16384

noncomputable section

/- The run of the up projections: the body at a first row tile (it casts the weights into scratch) and at the others, what the scratch holds between
   points, and the whole program. Over any interpretation of the floats. -/
namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resources of the run. -/
abbrev Res (F : FTy → Type) := MT nD τ sig Unit (Elt F) ℕ (UR sig nD τ) ℕ

theorem word_prev : ∀ k : Fin 16, (Scalar.indexCast (Scalar.maxsi (Scalar.subi (Scalar.muli 2#32 (BitVec.ofNat 32 k.val)) 1#32) 0#32)).toNat = 2 * k.val - 1 := by decide

theorem word_next : ∀ k : Fin 16, (Scalar.indexCast (Scalar.minsi (Scalar.addi (Scalar.muli 2#32 (BitVec.ofNat 32 k.val)) 2#32) 31#32)).toNat = min (2 * k.val + 2) 31 := by decide

/-- The row of the edge scratch that holds the previous tile's last row. -/
theorem off_prev (i : grid0.Coords) : k0_off1 i = ![2 * (i 1).val - 1, 0] := by
  show ![_, 0] = _
  exact congrArg (fun n : ℕ => ![n, 0]) (word_prev (i 1))

/-- The row of the edge scratch that holds the next tile's first row. -/
theorem off_next (i : grid0.Coords) : k0_off2 i = ![min (2 * (i 1).val + 2) 31, 0] := by
  show ![_, 0] = _
  exact congrArg (fun n : ℕ => ![n, 0]) (word_next (i 1))

section Loads

variable {sp : Space} {s : Shape} {φ : EltTy}

/-- A load of all of a whole buffer gives its contents. -/
theorem load_full {m : Memref sig .tc sp s φ} (h : m.IsWhole) (x : s.Idx → Elt F φ) {off : Fin s.rank → ℕ} (inb : ∀ a, off a + s.size a ≤ s.size a) :
    m.view.readAt (Elt F) (Rect.unit off s.size inb).toLoadRect (h.unread x) = x := by
  rw [View.readAt_full, h.read_unread]

/-- A load of part of a whole buffer gives the window of its contents. -/
theorem load_part {m : Memref sig .tc sp s φ} (h : m.IsWhole) (x : s.Idx → Elt F φ) {off size : Fin s.rank → ℕ} (inb : ∀ a, off a + size a ≤ s.size a) :
    m.view.readAt (Elt F) (Rect.unit off size inb).toLoadRect (h.unread x) = VecWindow.window x off size inb := by
  rw [View.readAt_unit _ _ inb rfl inb, h.read_unread]

/-- A load of part of a buffer that has just been stored whole gives the window of what was stored. -/
theorem load_stored {sig : RefSig} {κ : Kind} (v : View sig κ sp s φ) {off off' size : Fin s.rank → ℕ} (inb : ∀ a, off a + size a ≤ s.size a)
    (inb' : ∀ a, off' a + s.size a ≤ s.size a) (w : (Rect.unit off' s.size inb').shape.Idx → Elt F φ) (L : List (View.Piece (Elt F) s φ)) :
    v.readCov (⟨Rect.unit off' s.size inb', w⟩ :: L) (Rect.unit off size inb).toLoadRect = VecWindow.window (s := s) w off size inb := by
  unfold View.readCov
  rw [View.readAt_unit _ _ inb rfl inb, View.read_writes_full]

end Loads

/-- The body's branch is taken at the first row tile. -/
abbrev first (i : grid0.Coords) : Prop := (Scalar.cmpi .ne (Scalar.extui (Scalar.cmpi .eq (BitVec.ofNat 32 (i 1).val) 0#32)) 0#32) = 1#1

/-- What the body stores in its output block, from the row tile, the weights' tiles, the edge rows' products, the taps and the bias. -/
def result (i : grid0.Coords) (x : Vec F S1024x4096 .bf16) (g u : FVec F S4096x256 .bf16) (e : FVec F S32x256 .f32) (w : Vec F S3x256 .f32)
    (b : Vec F S1x256 .f32) : FVec F S1024x256 .bf16 :=
  k0_pay1 (k0_pay6 x u)
    (k0_pay9 (k0_pay5 x g) (k0_pay7 i) (k0_pay8 i (VecWindow.window e (k0_off1 i) S1x256.size (k0_off1_inb i)))
      (VecWindow.window e (k0_off2 i) S1x256.size (k0_off2_inb i)) b (VecWindow.window w ![0, 0] S1x256.size inb_S3x256_S1x256_0_0)
      (VecWindow.window w ![1, 0] S1x256.size inb_S3x256_S1x256_1_0) (VecWindow.window w ![2, 0] S1x256.size inb_S3x256_S1x256_2_0))
    (k0_pay10 (k0_pay5 x g) (k0_pay7 i) (k0_pay8 i (VecWindow.window e (k0_off1 i) S1x256.size (k0_off1_inb i)))
      (VecWindow.window e (k0_off2 i) S1x256.size (k0_off2_inb i)) b (VecWindow.window w ![0, 0] S1x256.size inb_S3x256_S1x256_0_0)
      (VecWindow.window w ![1, 0] S1x256.size inb_S3x256_S1x256_1_0) (VecWindow.window w ![2, 0] S1x256.size inb_S3x256_S1x256_2_0))

set_option maxHeartbeats 1000000 in
/-- The body at a row tile that is not the first: the scratch is read and kept. -/
theorem later (c : Dev nD) (i : grid0.Coords) (arg2 : Memref sig .tc .vmem S1024x4096 .bf16) (harg2 : arg2.IsWhole) (arg3 : Memref sig .tc .vmem S32x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S32x256 .f32) (harg11 : arg11.IsWhole) (hc : ¬first i)
    (x0 : Vec F S1024x4096 .bf16) (x1 : Vec F S32x4096 .bf16) (x2 : Vec F S1x4096x256 .f32) (x3 : Vec F S1x4096x256 .f32) (x4 : Vec F S3x256 .f32) (x5 : Vec F S1x256 .f32)
    (g u : Vec F S4096x256 .bf16) (e : Vec F S32x256 .f32) (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare g ∗ owns (c : Thread nD τ) arg10 fullShare u ∗ owns (c : Thread nD τ) arg11 fullShare e
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (result i x0 g u e x4 x5) ∗ owns (c : Thread nD τ) arg9 fullShare g ∗ owns (c : Thread nD τ) arg10 fullShare u ∗ owns (c : Thread nD τ) arg11 fullShare e) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K := by
  simp only [cc0_ffn_up_eq_skeleton]; unfold cc0_ffn_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg9.eq_unread hfs0; obtain rfl := harg10.eq_unread hfs1; obtain rfl := harg11.eq_unread hfs2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ inb_S1024x256_S1024x256_0_0 _ []).trans ?_
    unfold later.sl.r_1 later.sl.r_3 later.sl.r_4 later.sl.r later.sl.r_2 result
    rw [load_full harg2, load_full harg9, load_full harg10, load_full harg7, load_part harg6, load_part harg6, load_part harg6, load_part harg11, load_part harg11]
  isplitl [HS0]
  · iexists _; isplitr; · ipureintro; exact harg9.read_unread _
    iexact HS0
  isplitl [HS1]
  · iexists _; isplitr; · ipureintro; exact harg10.read_unread _
    iexact HS1
  iexists _; isplitr; · ipureintro; exact harg11.read_unread _
  iexact HS2

set_option maxHeartbeats 1000000 in
/-- The body at the first row tile: the scratch is filled from the blocks, and then read. -/
theorem opening (c : Dev nD) (i : grid0.Coords) (arg2 : Memref sig .tc .vmem S1024x4096 .bf16) (harg2 : arg2.IsWhole) (arg3 : Memref sig .tc .vmem S32x4096 .bf16) (harg3 : arg3.IsWhole) (arg4 : Memref sig .tc .vmem S1x4096x256 .f32) (harg4 : arg4.IsWhole) (arg5 : Memref sig .tc .vmem S1x4096x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S1024x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S32x256 .f32) (harg11 : arg11.IsWhole) (hc : first i) (hp : k0_off1 i = ![0, 0]) (hn : k0_off2 i = ![2, 0])
    (x0 : Vec F S1024x4096 .bf16) (x1 : Vec F S32x4096 .bf16) (x2 : Vec F S1x4096x256 .f32) (x3 : Vec F S1x4096x256 .f32) (x4 : Vec F S3x256 .f32) (x5 : Vec F S1x256 .f32)
    (E : Set ℕ) (K : PUnit → sProp (Res F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (result i x0 (k0_pay2 x2) (k0_pay3 x3) (k0_pay4 x1 (k0_pay2 x2)) x4 x5) ∗ owns (c : Thread nD τ) arg9 fullShare (k0_pay2 x2) ∗ owns (c : Thread nD τ) arg10 fullShare (k0_pay3 x3) ∗ owns (c : Thread nD τ) arg11 fullShare (k0_pay4 x1 (k0_pay2 x2))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11) K := by
  simp only [cc0_ffn_up_eq_skeleton]; unfold cc0_ffn_up_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  letI : ClosedOff (k0_off1 i) := ⟨![0, 0], hp⟩
  letI : ClosedOff (k0_off2 i) := ⟨![2, 0], hn⟩
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ inb_S1024x256_S1024x256_0_0 _ []).trans ?_
    unfold opening.sl.r_1 opening.sl.r_3 opening.sl.r_4 opening.sl.r opening.sl.r_2
    unfold opening.sl.v6 opening.sl.v28 opening.sl.v35
    unfold opening.sl.HS2_1 opening.sl.HS1_1
    unfold opening.sl.v94
    unfold opening.sl.HS0_1 result
    rw [load_full harg2, load_full harg7, load_part harg6, load_part harg6, load_part harg6, load_full harg3, load_full harg4, load_full harg5,
      View.readCov_full, View.readCov_full, load_stored, load_stored]
  isplitl [HS0]
  · iexists _; isplitr; swap; · iexact HS0
    ipureintro
    unfold opening.sl.HS0_1
    refine (View.read_writes_full _ _ inb_S4096x256_S4096x256_0_0 _ []).trans ?_
    rw [load_full harg4]
  isplitl [HS1]
  · iexists _; isplitr; swap; · iexact HS1
    ipureintro
    unfold opening.sl.HS1_1
    refine (View.read_writes_full _ _ inb_S4096x256_S4096x256_0_0 _ []).trans ?_
    rw [load_full harg5]
  iexists _; isplitr; swap; · iexact HS2
  ipureintro
  unfold opening.sl.HS2_1
  refine (View.read_writes_full _ _ inb_S32x256_S32x256_0_0 _ []).trans ?_
  unfold opening.sl.v94
  unfold opening.sl.HS0_1
  rw [load_full harg3, View.readCov_full, load_full harg4]

/-! What the scratch holds between points, and the run. -/

variable (m : (ℓ : Loc nD τ sig) → Buf (Elt F) ℓ) (ρ : Dev nD → PrngReg)

/-- The row tile is the inner coordinate of a point, sixteen to a column tile. -/
theorem row_tile (t : Fin cfg0.N) : (grid0.coords t 1).val = t.val % 16 := by
  have h : (grid0.coords t 1).val = t.val / 1 % 16 := Pipeline.Grid.coords_val t 1 (by decide) rfl
  rw [h, Nat.div_one]

/-- The branch is taken exactly at the first row tile of a column tile. -/
theorem first_iff (t : Fin cfg0.N) : first (grid0.coords t) ↔ t.val % 16 = 0 := by
  have h : ∀ k : Fin 16, (Scalar.cmpi .ne (Scalar.extui (Scalar.cmpi .eq (BitVec.ofNat 32 k.val) 0#32)) 0#32) = 1#1 ↔ k.val = 0 := by decide
  rw [← row_tile t]
  exact h (grid0.coords t 1)

theorem prev_first (t : Fin cfg0.N) (h : t.val % 16 = 0) : k0_off1 (grid0.coords t) = ![0, 0] := by
  rw [off_prev, row_tile, h]

theorem next_first (t : Fin cfg0.N) (h : t.val % 16 = 0) : k0_off2 (grid0.coords t) = ![2, 0] := by
  rw [off_next, row_tile, h]; rfl

/-- Which block each window reads or writes at grid point `t`: sixteen row tiles per column tile. -/
theorem idx_val : ∀ t : Fin cfg0.N, win0_0.index t = ![t.val % 16, 0] ∧ win0_1.index t = ![0, 0] ∧ win0_2.index t = ![0, 0, t.val / 16]
    ∧ win0_3.index t = ![0, 0, t.val / 16 + 43] ∧ win0_4.index t = ![0, t.val / 16] ∧ win0_5.index t = ![0, t.val / 16]
    ∧ win0_6.index t = ![t.val % 16, t.val / 16] :=
  (by decide +kernel : ∀ t : Fin grid0.N, _)

/-- The gate weights' tile at a point, as the scratch keeps it. -/
def gate (c : Dev nD) (t : Fin cfg0.N) : FVec F S4096x256 .bf16 := k0_pay2 (iblk m c 2 t)

/-- The value weights' tile at a point. -/
def value (c : Dev nD) (t : Fin cfg0.N) : FVec F S4096x256 .bf16 := k0_pay3 (iblk m c 3 t)

/-- The edge rows times the gate weights' tile. -/
def edges (c : Dev nD) (t : Fin cfg0.N) : FVec F S32x256 .f32 := k0_pay4 (iblk m c 1 t) (gate m c t)

theorem iblk_1_same (c : Dev nD) (t t' : Fin cfg0.N) : iblk m c 1 t = iblk m c 1 t' := by
  funext y
  blk_point [iblk, idx_val t, idx_val t']

theorem iblk_2_same (c : Dev nD) (t t' : Fin cfg0.N) (h : t.val / 16 = t'.val / 16) : iblk m c 2 t = iblk m c 2 t' := by
  funext y
  blk_point [iblk, idx_val t, idx_val t', h]

theorem iblk_3_same (c : Dev nD) (t t' : Fin cfg0.N) (h : t.val / 16 = t'.val / 16) : iblk m c 3 t = iblk m c 3 t' := by
  funext y
  blk_point [iblk, idx_val t, idx_val t', h]

/-- Within a column tile the scratch does not change. -/
theorem gate_same (c : Dev nD) (t t' : Fin cfg0.N) (h : t.val / 16 = t'.val / 16) : gate m c t = gate m c t' := by
  unfold gate; rw [iblk_2_same m c t t' h]

theorem value_same (c : Dev nD) (t t' : Fin cfg0.N) (h : t.val / 16 = t'.val / 16) : value m c t = value m c t' := by
  unfold value; rw [iblk_3_same m c t t' h]

theorem edges_same (c : Dev nD) (t t' : Fin cfg0.N) (h : t.val / 16 = t'.val / 16) : edges m c t = edges m c t' := by
  unfold edges; rw [iblk_1_same m c t t', gate_same m c t t' h]

/-- What the region holds besides the windows before position `n`: at first the scratch at anything, later at what the point before left. -/
def held (c : Dev nD) : (n : ℕ) → n ≤ cfg0.N → sProp (Res F)
  | 0, _ => Pipeline.ΦA spec0 c
  | n + 1, hn => iprop(iprop(owns (c : Thread nD τ) (Memref.whole cc0_scratch0) fullShare (gate m c ⟨n, hn⟩) ∗ owns (c : Thread nD τ) (Memref.whole cc0_scratch1) fullShare (value m c ⟨n, hn⟩) ∗ owns (c : Thread nD τ) (Memref.whole cc0_scratch2) fullShare (edges m c ⟨n, hn⟩)) ∗ (∃ r, prngReg c r))

theorem held_zero (c : Dev nD) (n : ℕ) (h : n ≤ cfg0.N) (hz : n = 0) : held m c n h = Pipeline.ΦA spec0 c := by
  subst hz; rfl

theorem held_succ (c : Dev nD) (t : Fin cfg0.N) :
    held m c (t.val + 1) t.isLt = iprop(iprop(owns (c : Thread nD τ) (Memref.whole cc0_scratch0) fullShare (gate m c t) ∗ owns (c : Thread nD τ) (Memref.whole cc0_scratch1) fullShare (value m c t) ∗ owns (c : Thread nD τ) (Memref.whole cc0_scratch2) fullShare (edges m c t)) ∗ (∃ r, prngReg c r)) := rfl

theorem held_pos (c : Dev nD) (n : ℕ) (h : n ≤ cfg0.N) (hz : n ≠ 0) :
    held m c n h = iprop(iprop(owns (c : Thread nD τ) (Memref.whole cc0_scratch0) fullShare (gate m c ⟨n - 1, by omega⟩) ∗ owns (c : Thread nD τ) (Memref.whole cc0_scratch1) fullShare (value m c ⟨n - 1, by omega⟩) ∗ owns (c : Thread nD τ) (Memref.whole cc0_scratch2) fullShare (edges m c ⟨n - 1, by omega⟩)) ∗ (∃ r, prngReg c r)) := by
  cases n with
  | zero => exact absurd rfl hz
  | succ n => rfl

/-- The scratch at anything, buffer by buffer. -/
theorem scratch_eq (c : Dev nD) : (Pipeline.ΦA spec0 c : sProp (Res F))
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA
  rw [scopedRest0_eq]
  simp only [owns_whole]
  try rfl

/-- The run's data: the arrays as the region finds them, each input's block left in place, the output's block at the body's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => result (grid0.coords t) (iblk m c 0 t) (gate m c t) (value m c t) (edges m c t) (iblk m c 4 t) (iblk m c 5 t)
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = result (grid0.coords t) (iblk m c 0 t) (gate m c t) (value m c t) (edges m c t) (iblk m c 4 t) (iblk m c 5 t) := by dsimp only [dats]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d

/-- What the body starts from at point `t`, -/
def bodyPre (c : Dev nD) (t : Fin cfg0.N) : sProp (Res F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it leaves. -/
def bodyPost (c : Dev nD) (t : Fin cfg0.N) : sProp (Res F) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 2000000 in
/-- The body at any point takes the one to the other. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = held m c (t.val + 1) t.isLt from rfl, held_succ]
  by_cases h0 : t.val % 16 = 0
  · by_cases hz : t.val = 0
    · rw [held_castSucc m c t, held_zero m c _ _ hz, scratch_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (opening c (grid0.coords t) _ _ _ _ _ _ _ _ _ _ _ _ _ _ _ _ _ _ _ _ ((first_iff t).mpr h0) (prev_first t h0) (next_first t h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [held_castSucc m c t, held_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (opening c (grid0.coords t) _ _ _ _ _ _ _ _ _ _ _ _ _ _ _ _ _ _ _ _ ((first_iff t).mpr h0) (prev_first t h0) (next_first t h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by rw [h])
    have hlt : t.val - 1 < cfg0.N := Nat.lt_of_le_of_lt (Nat.sub_le _ _) t.isLt
    have hq : (⟨t.val - 1, hlt⟩ : Fin cfg0.N).val / 16 = t.val / 16 := by
      show (t.val - 1) / 16 = t.val / 16
      omega
    rw [held_castSucc m c t, held_pos m c _ _ hz, gate_same m c _ t hq, value_same m c _ t hq, edges_same m c _ t hq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (later c (grid0.coords t) _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (gate m c t) (value m c t) (edges m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

theorem held_in (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

theorem held_out (c : Dev nD) : (dats m 0 c).Φ (Fin.last cfg0.N) ⊢ Pipeline.ΦA spec0 c := by
  have hN : (Fin.last cfg0.N).val ≠ 0 := by rw [Fin.val_last]; have : cfg0.N = 688 := N_0; omega
  rw [show (dats m 0 c).Φ (Fin.last cfg0.N) = held m c (Fin.last cfg0.N).val (Nat.le_of_lt_succ (Fin.last cfg0.N).isLt) from rfl, held_pos m c _ _ hN, scratch_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- The program runs to the end; every window's array ends as the data say, every other buffer as the region found it, every counter at zero. -/
theorem run_quiet : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := held_in m) (hout := held_out m)

/-- The same without the counters. -/
theorem run_main : θ_run defs (onTc (τ := τ) (main (F := F))) (s₀ m ρ) (Pipeline.FramePost cfgs (dats m) 0 (V m)) :=
  (θ_run defs _ _).mono (fun _ h => h.1) (run_quiet m ρ)

/-- The program ends with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.Kernel2Ideal.Run

end

end
-- ==== Proof.FfnUp.lean ====
module

public import proofs.«01_k».proof.Proof.FfnUpRun
public import proofs.«01_k».proof.Proof.Gen.Reference2Ideal.Run
public import Idealize.ShloMosaic.Lib.Pipeline.ValueKit
public import Idealize.ShloMosaic.Lib.StableHlo.ReadAt

/-! The up projections: the tiled products, the convolution across the tile's edges and the gate, against the plain model's. -/

@[expose] public section

set_option maxRecDepth 16384

noncomputable section

open Idealize.ShloMosaic Idealize.ShloMosaic.TcCoe Idealize.SL.Sem
open Idealize.ShloMosaic.Pipeline (Dat)
open scoped BigOperators

namespace Cert.Reference2Ideal.Value
open Cert.Reference2Ideal.Gen

/-- The rows times the layer's weights, gate and value columns together. -/
def prod (h : FVec Ideal S16384x4096 .bf16) (w : FVec Ideal S2x4096x22016 .f32) : FVec Ideal S8x2048x22016 .f32 :=
  Host.dotGeneral dot_S8x2048x4096_S4096x22016_S8x2048x22016_2_0_01_1_n_n none
    (shapeCast _ (extf .f32 h bitsLt_bf16_f32) shapeCasts_S16384x4096_S8x2048x4096)
    (shapeCast _ (extractStridedSlice S1x4096x22016 ![0, 0, 0] w slices_S2x4096x22016_S1x4096x22016_0_0_0) shapeCasts_S1x4096x22016_S4096x22016)

/-- The gate columns of a product, a row of zeros before and after each sequence. -/
def padded (p : FVec Ideal S8x2048x22016 .f32) : FVec Ideal S8x2050x11008 .f32 :=
  pad S8x2050x11008 ![0, 1, 0] ![0, 1, 0] ![0, 0, 0] (extractStridedSlice S8x2048x11008 ![0, 0, 0] p slices_S8x2048x22016_S8x2048x11008_0_0_0)
    (sitofp .f32 (constantI S_ 32 0#32)) pads_S8x2048x11008_S8x2050x11008_000_110_000 h_S_

/-- One tap over the columns. -/
def tap (cw : FVec Ideal S2x3x11008 .f32) (k : ℕ) (hk : S2x3x11008.Slices ![0, k, 0] S1x1x11008) : FVec Ideal S8x2048x11008 .f32 :=
  broadcastInDim S8x2048x11008 ![0, 1, 2] bcast_S1x1x11008_S8x2048x11008_0_1_2 (broadcastInDim S1x1x11008 ![2] bcast_S11008_S1x1x11008_2
    (shapeCast _ (extractStridedSlice S1x1x11008 ![0, k, 0] cw hk) shapeCasts_S1x1x11008_S11008))

/-- The bias and the three taps. -/
def conv (cw : FVec Ideal S2x3x11008 .f32) (cb : FVec Ideal S2x11008 .f32) (g : FVec Ideal S8x2050x11008 .f32) : FVec Ideal S8x2048x11008 .f32 :=
  addf (addf (addf (broadcastInDim S8x2048x11008 ![0, 1, 2] bcast_S1x1x11008_S8x2048x11008_0_1_2 (broadcastInDim S1x1x11008 ![2] bcast_S11008_S1x1x11008_2
      (shapeCast _ (extractStridedSlice S1x11008 ![0, 0] cb slices_S2x11008_S1x11008_0_0) shapeCasts_S1x11008_S11008)))
      (mulf (extractStridedSlice S8x2048x11008 ![0, 0, 0] g slices_S8x2050x11008_S8x2048x11008_0_0_0) (tap cw 0 slices_S2x3x11008_S1x1x11008_0_0_0)))
      (mulf (extractStridedSlice S8x2048x11008 ![0, 1, 0] g slices_S8x2050x11008_S8x2048x11008_0_1_0) (tap cw 1 slices_S2x3x11008_S1x1x11008_0_1_0)))
      (mulf (extractStridedSlice S8x2048x11008 ![0, 2, 0] g slices_S8x2050x11008_S8x2048x11008_0_2_0) (tap cw 2 slices_S2x3x11008_S1x1x11008_0_2_0))

/-- A row through its own sigmoid, times the value columns. -/
def gated (a : FVec Ideal S8x2048x11008 .f32) (p : FVec Ideal S8x2048x22016 .f32) : FVec Ideal S16384x11008 .bf16 :=
  truncf .bf16 (shapeCast _ (mulf (mulf a (Host.divf (broadcastInDim S8x2048x11008 ![] bcast_S_S8x2048x11008 (constant S_ .f32 0x3F800000#32))
    (addf (broadcastInDim S8x2048x11008 ![] bcast_S_S8x2048x11008 (constant S_ .f32 0x3F800000#32)) (Host.exp (Host.negf a)))))
    (extractStridedSlice S8x2048x11008 ![0, 0, 11008] p slices_S8x2048x22016_S8x2048x11008_0_0_11008)) shapeCasts_S8x2048x11008_S16384x11008) bitsLt_bf16_f32

/-- The reference's result in these pieces. -/
theorem res_eq (m : (ℓ : Loc nD τ sig) → Buf (Elt Ideal) ℓ) (c : Dev nD) : res_main_v36 m c
    = gated (conv (m ((c.tc : Thread nD τ).loc main_arg2)) (m ((c.tc : Thread nD τ).loc main_arg3)) (padded (prod (m ((c.tc : Thread nD τ).loc main_arg0)) (m ((c.tc : Thread nD τ).loc main_arg1)))))
      (prod (m ((c.tc : Thread nD τ).loc main_arg0)) (m ((c.tc : Thread nD τ).loc main_arg1))) := rfl

/-- The whole result, from the four arguments. -/
def out (h : FVec Ideal S16384x4096 .bf16) (w : FVec Ideal S2x4096x22016 .f32) (cw : FVec Ideal S2x3x11008 .f32) (cb : FVec Ideal S2x11008 .f32) :
    FVec Ideal S16384x11008 .bf16 :=
  gated (conv cw cb (padded (prod h w))) (prod h w)

/-- One entry of the product: row `r` of the rows, column `j` of the layer's weights. -/
def dot (h : FVec Ideal S16384x4096 .bf16) (w : FVec Ideal S2x4096x22016 .f32) (r : Fin 16384) (j : Fin 22016) : EReal :=
  ∑ k : Fin 4096, h (ix2 r k) * w (ix3 0 k j)

/-- The entry of the row before, zero at the start of a sequence. -/
def before (h : FVec Ideal S16384x4096 .bf16) (w : FVec Ideal S2x4096x22016 .f32) (r : Fin 16384) (j : Fin 22016) : EReal :=
  if r.val % 2048 = 0 then 0 else dot h w ⟨r.val - 1, by omega⟩ j

/-- The entry of the row after, zero at the end of a sequence. -/
def next (h : FVec Ideal S16384x4096 .bf16) (w : FVec Ideal S2x4096x22016 .f32) (r : Fin 16384) (j : Fin 22016) : EReal :=
  if _hr : r.val % 2048 = 2047 then 0 else dot h w ⟨r.val + 1, by omega⟩ j

/-- One entry after the convolution: the bias and three taps. -/
def mixed (h : FVec Ideal S16384x4096 .bf16) (w : FVec Ideal S2x4096x22016 .f32) (cw : FVec Ideal S2x3x11008 .f32) (cb : FVec Ideal S2x11008 .f32)
    (r : Fin 16384) (j : Fin 11008) : EReal :=
  cb (ix2 0 j) + before h w r ⟨j.val, by omega⟩ * cw (ix3 0 0 j) + dot h w r ⟨j.val, by omega⟩ * cw (ix3 0 1 j)
    + next h w r ⟨j.val, by omega⟩ * cw (ix3 0 2 j)

/-- The product's entries. -/
theorem prod_at (h : FVec Ideal S16384x4096 .bf16) (w : FVec Ideal S2x4096x22016 .f32) (b : Fin 8) (s : Fin 2048) (j : Fin 22016) :
    prod h w (ix3 b s j) = dot h w ⟨b.val * 2048 + s.val, by omega⟩ j := by
  unfold dot
  pointwise [prod]

/-- The padded gate columns' entries: zero on the two added rows. -/
theorem padded_at (p : FVec Ideal S8x2048x22016 .f32) (b : Fin 8) (s : Fin 2050) (j : Fin 11008) :
    padded p (ix3 b s j) = if h : 1 ≤ s.val ∧ s.val - 1 < 2048 then p (ix3 b ⟨s.val - 1, h.2⟩ ⟨j.val, by omega⟩) else 0 := by
  have z : (FloatOps.sitofp .f32 (0#32 : BitVec 32) : Ideal .f32) = (0 : EReal) := by
    show (((0#32 : BitVec 32).toInt : ℝ) : EReal) = 0
    simp
  rw [← z]
  pointwise [padded]

/-- The convolution's entries. -/
theorem conv_at (cw : FVec Ideal S2x3x11008 .f32) (cb : FVec Ideal S2x11008 .f32) (g : FVec Ideal S8x2050x11008 .f32) (b : Fin 8) (s : Fin 2048) (j : Fin 11008) :
    conv cw cb g (ix3 b s j) = cb (ix2 0 j) + g (ix3 b ⟨s.val, by omega⟩ j) * cw (ix3 0 0 j) + g (ix3 b ⟨1 + s.val, by omega⟩ j) * cw (ix3 0 1 j)
      + g (ix3 b ⟨2 + s.val, by omega⟩ j) * cw (ix3 0 2 j) := by
  pointwise [conv, tap]

/-- The gated entries. -/
theorem gated_at (a : FVec Ideal S8x2048x11008 .f32) (p : FVec Ideal S8x2048x22016 .f32) (r : Fin 16384) (j : Fin 11008) :
    gated a p (ix2 r j) = a (ix3 ⟨r.val / 2048, by omega⟩ ⟨r.val % 2048, by omega⟩ j)
      * Ideal.div 1 (1 + Ideal.exp (-a (ix3 ⟨r.val / 2048, by omega⟩ ⟨r.val % 2048, by omega⟩ j)))
      * p (ix3 ⟨r.val / 2048, by omega⟩ ⟨r.val % 2048, by omega⟩ ⟨11008 + j.val, by omega⟩) := by
  pointwise [gated]

/-- The product's entry at a row of the flat order. -/
theorem prod_row (h : FVec Ideal S16384x4096 .bf16) (w : FVec Ideal S2x4096x22016 .f32) (b : Fin 8) (s : Fin 2048) (j : Fin 22016) (r : Fin 16384)
    (hr : r.val = b.val * 2048 + s.val) : prod h w (ix3 b s j) = dot h w r j := by
  rw [prod_at]
  exact congrArg (fun r => dot h w r j) (Fin.ext hr.symm)

/-- The convolution's entry at a row of the flat order. -/
theorem conv_row (h : FVec Ideal S16384x4096 .bf16) (w : FVec Ideal S2x4096x22016 .f32) (cw : FVec Ideal S2x3x11008 .f32) (cb : FVec Ideal S2x11008 .f32)
    (r : Fin 16384) (j : Fin 11008) :
    conv cw cb (padded (prod h w)) (ix3 ⟨r.val / 2048, by omega⟩ ⟨r.val % 2048, by omega⟩ j) = mixed h w cw cb r j := by
  have hp : padded (prod h w) (ix3 ⟨r.val / 2048, by omega⟩ ⟨r.val % 2048, by omega⟩ j) = before h w r ⟨j.val, by omega⟩ := by
    rw [padded_at]
    unfold before
    by_cases h0 : r.val % 2048 = 0
    · rw [if_pos h0, dif_neg (by simp only; omega)]
    · rw [if_neg h0, dif_pos (by simp only; omega)]
      exact prod_row _ _ _ _ _ _ (by simp only; omega)
  have hc : padded (prod h w) (ix3 ⟨r.val / 2048, by omega⟩ ⟨1 + r.val % 2048, by omega⟩ j) = dot h w r ⟨j.val, by omega⟩ := by
    rw [padded_at, dif_pos (by simp only; omega)]
    exact prod_row _ _ _ _ _ _ (by simp only; omega)
  have hn : padded (prod h w) (ix3 ⟨r.val / 2048, by omega⟩ ⟨2 + r.val % 2048, by omega⟩ j) = next h w r ⟨j.val, by omega⟩ := by
    rw [padded_at]
    unfold next
    by_cases h0 : r.val % 2048 = 2047
    · rw [dif_pos h0, dif_neg (by simp only; omega)]
    · rw [dif_neg h0, dif_pos (by simp only; omega)]
      exact prod_row _ _ _ _ _ _ (by simp only; omega)
  rw [conv_at, hp, hc, hn]
  rfl

/-- The whole result's entries. -/
theorem out_at (h : FVec Ideal S16384x4096 .bf16) (w : FVec Ideal S2x4096x22016 .f32) (cw : FVec Ideal S2x3x11008 .f32) (cb : FVec Ideal S2x11008 .f32)
    (r : Fin 16384) (j : Fin 11008) :
    out h w cw cb (ix2 r j) = mixed h w cw cb r j * Ideal.div 1 (1 + Ideal.exp (-mixed h w cw cb r j)) * dot h w r ⟨11008 + j.val, by omega⟩ := by
  unfold out
  rw [gated_at, conv_row, prod_row _ _ _ _ _ r (by simp only; omega)]

end Cert.Reference2Ideal.Value

namespace Cert.Kernel2Ideal.Value

open Cert.Kernel2Ideal Cert.Kernel2Ideal.Gen Cert.Kernel2Ideal.Run
open Cert.Reference2Ideal.Value (dot before next mixed out out_at)

variable (m : (ℓ : Loc nD τ sig) → Buf (Elt Ideal) ℓ)

/-- The words of the row tile's place in its sequence. -/
abbrev half (n : ℕ) : BitVec 32 :=
  have v9 := Scalar.select (Scalar.cmpi .eq (2#32 : BitVec 32) 0#32) (1#32 : BitVec 32) 2#32
  have v10 := Scalar.remsi (BitVec.ofNat 32 n) v9
  Scalar.select (Scalar.andi (Scalar.xori (Scalar.cmpi .slt v10 0#32) (Scalar.cmpi .slt v9 0#32)) (Scalar.cmpi .ne v10 0#32)) (Scalar.addi v10 v9) v10

/-- The word below one is the flag of a sequence's first row tile. -/
theorem half_first : ∀ k : Fin 16, ((Scalar.extui (Scalar.cmpi .slt (half k.val) 1#32) : BitVec 32)).toInt = if k.val % 2 = 0 then 1 else 0 := by decide
/-- The word above zero is the flag of a sequence's second row tile. -/
theorem half_second : ∀ k : Fin 16, ((Scalar.extui (Scalar.cmpi .sgt (half k.val) 0#32) : BitVec 32)).toInt = if k.val % 2 = 0 then 0 else 1 := by decide

/-- The factor of the next tile's row: one at a first row tile, else zero. -/
theorem pay7 (i : grid0.Coords) : (k0_pay7 (F := Ideal) i : EReal) = if (i 1).val % 2 = 0 then 1 else 0 := by
  show ((((Scalar.extui (Scalar.cmpi .slt (half (i 1).val) 1#32) : BitVec 32)).toInt : ℝ) : EReal) = _
  rw [half_first (i 1)]; split <;> simp

/-- The previous tile's row, zero at a first row tile. -/
theorem pay8 (i : grid0.Coords) (v : Vec Ideal S1x256 .f32) (j : Fin 256) : k0_pay8 i v (ix2 0 j) = if (i 1).val % 2 = 0 then 0 else v (ix2 0 j) := by
  show v (ix2 0 j) * ((((Scalar.extui (Scalar.cmpi .sgt (half (i 1).val) 0#32) : BitVec 32)).toInt : ℝ) : EReal) = _
  rw [half_second (i 1)]; split <;> simp

/-- A choice by comparing a row's word with a number is a choice by the row's number. -/
theorem word_eq (a : Fin 1024) (n : ℕ) (hn : n < 1024) (x y : EReal) : Scalar.select (IntOp.cmpi .eq (BitVec.ofNat 32 a.val) (BitVec.ofNat 32 n)) x y = if a.val = n then x else y := by
  have h : BitVec.ofNat 32 a.val = BitVec.ofNat 32 n ↔ a.val = n := by
    constructor
    · intro h
      have h' := congrArg BitVec.toNat h
      simp only [BitVec.toNat_ofNat] at h'
      omega
    · intro h; rw [h]
  by_cases h' : a.val = n
  · simp [Scalar.select, IntOp.cmpi, h, h']
  · have : (BitVec.ofNat 32 a.val == BitVec.ofNat 32 n) = false := by rw [beq_eq_false_iff_ne]; exact fun e => h' (h.mp e)
    simp [Scalar.select, IntOp.cmpi, this, h']

/-- The convolution's entries: bias and three taps over the rotated rows, the edge rows put in at the first and the last row. -/
theorem pay9 (p : FVec Ideal S1024x256 .f32) (f : EReal) (q r b w0 w1 w2 : FVec Ideal S1x256 .f32) (a : Fin 1024) (j : Fin 256) :
    k0_pay9 (F := Ideal) p f q r b w0 w1 w2 (ix2 a j)
      = b (ix2 0 j) + w0 (ix2 0 j) * (if a.val = 0 then q (ix2 0 j) else p (ix2 ⟨(a.val + 1024 - 1) % 1024, Nat.mod_lt _ (by decide)⟩ j))
        + w1 (ix2 0 j) * p (ix2 a j)
        + w2 (ix2 0 j) * (if a.val = 1023 then r (ix2 0 j) * f else p (ix2 ⟨(a.val + 1024 - 1023) % 1024, Nat.mod_lt _ (by decide)⟩ j)) := by
  rw [← word_eq a 0 (by decide), ← word_eq a 1023 (by decide)]
  pointwise [k0_pay9]

/-- The sigmoid's entries. -/
theorem pay10 (p : FVec Ideal S1024x256 .f32) (f : EReal) (q r b w0 w1 w2 : FVec Ideal S1x256 .f32) (y) :
    k0_pay10 (F := Ideal) p f q r b w0 w1 w2 y = Ideal.div 1 (1 + Ideal.exp (-(k0_pay9 (F := Ideal) p f q r b w0 w1 w2 y))) := by
  rw [← zero_sub]
  pointwise [k0_pay10]

/-- The stored entries. -/
theorem pay1 (v p q : FVec Ideal S1024x256 .f32) (y) : k0_pay1 (F := Ideal) v p q y = (p y * q y) * v y := by
  pointwise [k0_pay1]

/-- The gate product's entries. -/
theorem pay5 (x : Vec Ideal S1024x4096 .bf16) (g : FVec Ideal S4096x256 .bf16) (a : Fin 1024) (j : Fin 256) :
    k0_pay5 x g (ix2 a j) = ∑ k : Fin 4096, x (ix2 a k) * g (ix2 k j) := by
  pointwise [k0_pay5]

/-- The value product's entries. -/
theorem pay6 (x : Vec Ideal S1024x4096 .bf16) (g : FVec Ideal S4096x256 .bf16) (a : Fin 1024) (j : Fin 256) :
    k0_pay6 x g (ix2 a j) = ∑ k : Fin 4096, x (ix2 a k) * g (ix2 k j) := by
  pointwise [k0_pay6]

/-- One row of an array read as a window. -/
theorem window_row {R : ℕ} {α : Type} (e : (⟨2, ![R, 256]⟩ : Shape).Idx → α) (off : Fin 2 → ℕ) (n : Fin R) (ho : off = ![n.val, 0]) (h) (j : Fin 256) :
   VecWindow.window (s := ⟨2, ![R, 256]⟩) e off S1x256.size h (ix2 0 j) = e (ix2 n j) := by
  subst ho
  unfold VecWindow.window
  congr 1
  funext a
  fin_cases a
  · apply Fin.ext; show n.val + 1 * 0 = n.val; omega
  · apply Fin.ext; show 0 + 1 * j.val = j.val; omega

/-- The rows. -/
abbrev rows (c : Dev nD) : FVec Ideal S16384x4096 .bf16 := m ((c.tc : Thread nD τ).loc main_arg0)
/-- The layers' weights. -/
abbrev wts (c : Dev nD) : FVec Ideal S2x4096x22016 .f32 := m ((c.tc : Thread nD τ).loc main_arg1)
/-- The layers' taps. -/
abbrev taps (c : Dev nD) : FVec Ideal S2x3x11008 .f32 := m ((c.tc : Thread nD τ).loc main_arg2)
/-- The layers' biases. -/
abbrev bias (c : Dev nD) : FVec Ideal S2x11008 .f32 := m ((c.tc : Thread nD τ).loc main_arg3)

/-- The row that a place in a tile stands for. -/
abbrev row (t : Fin cfg0.N) (a : Fin 1024) : Fin 16384 := ⟨1024 * (t.val % 16) + a.val, by omega⟩

/-- There are 43 column tiles. -/
theorem points (t : Fin cfg0.N) : t.val / 16 < 43 := by
  have h : t.val < 688 := t.isLt
  omega

/-- The column that a place in a tile stands for. -/
abbrev col (t : Fin cfg0.N) (j : Fin 256) : Fin 11008 := ⟨256 * (t.val / 16) + j.val, by have := points t; omega⟩

/-- An even row of the edge rows is a tile's first row. -/
theorem first_row (c : Dev nD) (q : Fin 32) (k : Fin 4096) (h : q.val % 2 = 0) :
    V m c main_v12 (ix2 q k) = rows m c (ix2 ⟨q.val / 2 * 1024, by omega⟩ k) := by
  unfold V
  after_reads_at
  split
  · after_reads_at
  · omega

/-- An odd row of the edge rows is a tile's last row. -/
theorem last_row (c : Dev nD) (q : Fin 32) (k : Fin 4096) (h : q.val % 2 = 1) :
    V m c main_v12 (ix2 q k) = rows m c (ix2 ⟨q.val / 2 * 1024 + 1023, by omega⟩ k) := by
  unfold V
  after_reads_at
  split
  · omega
  · after_reads_at

/-- The taps as the region finds them. -/
theorem taps_at (c : Dev nD) (q : Fin 3) (k : Fin 11008) : V m c main_v1 (ix2 q k) = taps m c (ix3 0 q k) := by
  unfold V
  after_reads_at

/-- The bias as the region finds it. -/
theorem bias_at (c : Dev nD) (q : Fin 1) (k : Fin 11008) : V m c main_v13 (ix2 q k) = bias m c (ix2 0 k) := by
  unfold V
  after_reads_at

/-- The gate weights' tile. -/
theorem gate_at (c : Dev nD) (t : Fin cfg0.N) (k : Fin 4096) (j : Fin 256) :
    gate m c t (ix2 k j) = wts m c (ix3 0 k ⟨(col t j).val, by omega⟩) := by
  pointwise [gate, k0_pay2]
  blk_point [iblk, V, idx_val t]

/-- The value weights' tile. -/
theorem value_at (c : Dev nD) (t : Fin cfg0.N) (k : Fin 4096) (j : Fin 256) :
    value m c t (ix2 k j) = wts m c (ix3 0 k ⟨11008 + (col t j).val, by omega⟩) := by
  pointwise [value, k0_pay3]
  blk_point [iblk, V, idx_val t]

/-- The rows' tile. -/
theorem rows_at (c : Dev nD) (t : Fin cfg0.N) (a : Fin 1024) (k : Fin 4096) : iblk m c 0 t (ix2 a k) = rows m c (ix2 (row t a) k) := by
  blk_point [iblk, V, idx_val t]

/-- The edge rows' block is the whole array. -/
theorem edge_at (c : Dev nD) (t : Fin cfg0.N) (a : Fin 32) (k : Fin 4096) : iblk m c 1 t (ix2 a k) = V m c main_v12 (ix2 a k) := by
  blk_point [iblk, idx_val t]

/-- The taps' tile. -/
theorem tap_at (c : Dev nD) (t : Fin cfg0.N) (a : Fin 3) (j : Fin 256) : iblk m c 4 t (ix2 a j) = taps m c (ix3 0 a (col t j)) := by
  rw [← taps_at m c a (col t j)]
  blk_point [iblk, idx_val t]

/-- The bias's tile. -/
theorem bias_tile (c : Dev nD) (t : Fin cfg0.N) (a : Fin 1) (j : Fin 256) : iblk m c 5 t (ix2 a j) = bias m c (ix2 0 (col t j)) := by
  rw [← bias_at m c a (col t j)]
  blk_point [iblk, idx_val t]

/-- The edge rows' products, from any edge rows. -/
theorem pay4 (v : Vec Ideal S32x4096 .bf16) (g : FVec Ideal S4096x256 .bf16) (a : Fin 32) (j : Fin 256) :
    k0_pay4 v g (ix2 a j) = ∑ k : Fin 4096, v (ix2 a k) * g (ix2 k j) := by
  pointwise [k0_pay4]

/-- A product of a row with a column of the gate weights. -/
theorem gate_dot (c : Dev nD) (t : Fin cfg0.N) (a : Fin 1024) (j : Fin 256) :
    k0_pay5 (iblk m c 0 t) (gate m c t) (ix2 a j) = dot (rows m c) (wts m c) (row t a) ⟨(col t j).val, by omega⟩ := by
  rw [pay5]
  exact Finset.sum_congr rfl fun k _ => by rw [rows_at, gate_at]

/-- A product of a row with a column of the value weights. -/
theorem value_dot (c : Dev nD) (t : Fin cfg0.N) (a : Fin 1024) (j : Fin 256) :
    k0_pay6 (iblk m c 0 t) (value m c t) (ix2 a j) = dot (rows m c) (wts m c) (row t a) ⟨11008 + (col t j).val, by omega⟩ := by
  rw [pay6]
  exact Finset.sum_congr rfl fun k _ => by rw [rows_at, value_at]

/-- The edge products of the previous tile's last row. -/
theorem edge_last (c : Dev nD) (t : Fin cfg0.N) (q : Fin 32) (j : Fin 256) (h : q.val % 2 = 1) :
    edges m c t (ix2 q j) = dot (rows m c) (wts m c) ⟨q.val / 2 * 1024 + 1023, by omega⟩ ⟨(col t j).val, by omega⟩ := by
  unfold edges
  rw [pay4]
  exact Finset.sum_congr rfl fun k _ => by rw [edge_at, last_row m c q k h, gate_at]

/-- The edge products of the next tile's first row. -/
theorem edge_first (c : Dev nD) (t : Fin cfg0.N) (q : Fin 32) (j : Fin 256) (h : q.val % 2 = 0) :
    edges m c t (ix2 q j) = dot (rows m c) (wts m c) ⟨q.val / 2 * 1024, by omega⟩ ⟨(col t j).val, by omega⟩ := by
  unfold edges
  rw [pay4]
  exact Finset.sum_congr rfl fun k _ => by rw [edge_at, first_row m c q k h, gate_at]

/-- The row before, as the tile finds it: in the tile, in the edge products, or zero. -/
theorem prev_at (c : Dev nD) (t : Fin cfg0.N) (a : Fin 1024) (j : Fin 256) :
    (if a.val = 0 then (if (grid0.coords t 1).val % 2 = 0 then (0 : EReal) else edges m c t (ix2 ⟨2 * (grid0.coords t 1).val - 1, by rw [row_tile]; omega⟩ j))
      else k0_pay5 (iblk m c 0 t) (gate m c t) (ix2 ⟨(a.val + 1024 - 1) % 1024, Nat.mod_lt _ (by decide)⟩ j))
      = before (rows m c) (wts m c) (row t a) ⟨(col t j).val, by omega⟩ := by
  have ht := row_tile t
  unfold before
  by_cases h0 : a.val = 0
  · by_cases h1 : (grid0.coords t 1).val % 2 = 0
    · rw [if_pos h0, if_pos h1, if_pos (by simp only; omega)]
    · rw [if_pos h0, if_neg h1, if_neg (by simp only; omega), edge_last m c t _ j (by simp only; omega)]
      exact congrArg (fun r => dot (rows m c) (wts m c) r _) (Fin.ext (by simp only; omega))
  · rw [if_neg h0, if_neg (by simp only; omega), gate_dot]
    exact congrArg (fun r => dot (rows m c) (wts m c) r _) (Fin.ext (by simp only; omega))

/-- The row after, as the tile finds it. -/
theorem next_at (c : Dev nD) (t : Fin cfg0.N) (a : Fin 1024) (j : Fin 256) :
    (if a.val = 1023 then edges m c t (ix2 ⟨min (2 * (grid0.coords t 1).val + 2) 31, by omega⟩ j) * (if (grid0.coords t 1).val % 2 = 0 then (1 : EReal) else 0)
      else k0_pay5 (iblk m c 0 t) (gate m c t) (ix2 ⟨(a.val + 1024 - 1023) % 1024, Nat.mod_lt _ (by decide)⟩ j))
      = next (rows m c) (wts m c) (row t a) ⟨(col t j).val, by omega⟩ := by
  have ht := row_tile t
  unfold next
  by_cases h0 : a.val = 1023
  · by_cases h1 : (grid0.coords t 1).val % 2 = 0
    · rw [if_pos h0, if_pos h1, dif_neg (by simp only; omega), edge_first m c t _ j (by simp only; omega), mul_one]
      exact congrArg (fun r => dot (rows m c) (wts m c) r _) (Fin.ext (by simp only; omega))
    · rw [if_pos h0, if_neg h1, dif_pos (by simp only; omega), mul_zero]
  · rw [if_neg h0, dif_neg (by simp only; omega), gate_dot]
    exact congrArg (fun r => dot (rows m c) (wts m c) r _) (Fin.ext (by simp only; omega))

/-- One entry of what the body stores. -/
theorem result_at (c : Dev nD) (t : Fin cfg0.N) (a : Fin 1024) (j : Fin 256) :
    result (grid0.coords t) (iblk m c 0 t) (gate m c t) (value m c t) (edges m c t) (iblk m c 4 t) (iblk m c 5 t) (ix2 a j)
      = out (rows m c) (wts m c) (taps m c) (bias m c) (ix2 (row t a) (col t j)) := by
  have hl : k0_pay9 (F := Ideal) (k0_pay5 (iblk m c 0 t) (gate m c t)) (k0_pay7 (grid0.coords t))
      (k0_pay8 (grid0.coords t) (VecWindow.window (edges m c t) (k0_off1 (grid0.coords t)) S1x256.size (k0_off1_inb (grid0.coords t))))
      (VecWindow.window (edges m c t) (k0_off2 (grid0.coords t)) S1x256.size (k0_off2_inb (grid0.coords t))) (iblk m c 5 t)
      (VecWindow.window (iblk m c 4 t) ![0, 0] S1x256.size inb_S3x256_S1x256_0_0) (VecWindow.window (iblk m c 4 t) ![1, 0] S1x256.size inb_S3x256_S1x256_1_0)
      (VecWindow.window (iblk m c 4 t) ![2, 0] S1x256.size inb_S3x256_S1x256_2_0) (ix2 a j)
      = mixed (rows m c) (wts m c) (taps m c) (bias m c) (row t a) (col t j) := by
    rw [pay9, pay8, pay7]
    rw [window_row (edges m c t) _ ⟨2 * (grid0.coords t 1).val - 1, by rw [row_tile]; omega⟩ (off_prev _),
      window_row (edges m c t) _ ⟨min (2 * (grid0.coords t 1).val + 2) 31, by omega⟩ (off_next _), prev_at, next_at,
      window_row (R := 3) (iblk m c 4 t) ![0, 0] (0 : Fin 3) rfl, window_row (R := 3) (iblk m c 4 t) ![1, 0] (1 : Fin 3) rfl, window_row (R := 3) (iblk m c 4 t) ![2, 0] (2 : Fin 3) rfl,
      tap_at, tap_at, tap_at, bias_tile, gate_dot]
    unfold mixed
    rw [mul_comm (taps m c (ix3 0 0 _)), mul_comm (taps m c (ix3 0 1 _)), mul_comm (taps m c (ix3 0 2 _))]
  unfold result
  rw [pay1, pay10, hl, value_dot, out_at]

/-- The tile stored at grid point `t` is the result at the entries that tile covers. -/
theorem tile (c : Dev nD) (t : Fin cfg0.N) (y) :
    result (grid0.coords t) (iblk m c 0 t) (gate m c t) (value m c t) (edges m c t) (iblk m c 4 t) (iblk m c 5 t) y
      = out (rows m c) (wts m c) (taps m c) (bias m c) (((cfg0.win 6).blk t).view.emb y) := by
  obtain ⟨a, j, rfl⟩ : ∃ (a : Fin 1024) (j : Fin 256), y = ix2 a j := ⟨y 0, y 1, eq_ix2 y⟩
  rw [result_at]
  blk_point [idx_val t]

/-- After the run the result array is the plain model's. -/
theorem final (c : Dev nD) : (dats m 0 c).arrAt 6 (cfgs 0).N = out (rows m c) (wts m c) (taps m c) (bias m c) := by
  refine (dats m 0 c).arrAt_eq_of_covers 6 _ (by decide +kernel) fun t hf y => ?_
  blk_simp; rw [after_6]; frame_out
  exact tile m c t y

end Cert.Kernel2Ideal.Value

end

end
-- ==== Proof.FfnDown.lean ====
module

public import proofs.«01_k».proof.Proof.Gen.Kernel3Ideal.Frame
public import proofs.«01_k».proof.Proof.Gen.Reference3Ideal.Run
public import Idealize.ShloMosaic.Lib.Pipeline.ValueKit

/-! The down projection of the feed-forward block, with the scaled residual added. -/

@[expose] public section

set_option maxRecDepth 16384

noncomputable section

open Idealize.ShloMosaic Idealize.ShloMosaic.TcCoe Idealize.SL.Sem
open Idealize.ShloMosaic.Pipeline (Dat)
open scoped BigOperators

namespace Cert.Reference3Ideal.Value

open Cert.Reference3Ideal.Gen

/-- The scaled residual plus the rows times the layer's down-projection matrix. -/
def down (a : FVec Ideal S16384x11008 .bf16) (w : FVec Ideal S2x11008x4096 .f32) (h : FVec Ideal S16384x4096 .f32) :
    FVec Ideal S16384x4096 .f32 :=
  addf (mulf (broadcastInDim S16384x4096 ![] bcast_S_S16384x4096 (constant S_ .f32 0x3FB504F3#32)) h)
    (Host.dotGeneral dot_S16384x11008_S11008x4096_S16384x4096_1_0_0_1_n_n none (extf .f32 a bitsLt_bf16_f32)
      (shapeCast _ (extractStridedSlice S1x11008x4096 ![0, 0, 0] w slices_S2x11008x4096_S1x11008x4096_0_0_0)
        shapeCasts_S1x11008x4096_S11008x4096))

end Cert.Reference3Ideal.Value

namespace Cert.Kernel3Ideal.Value

open Cert.Kernel3Ideal Cert.Kernel3Ideal.Gen

variable (m : (ℓ : Loc nD τ sig) → Buf (Elt Ideal) ℓ)

/-- Which block each window reads or writes at grid point `t`: eight column tiles per row tile. -/
theorem idx_val : ∀ t : Fin cfg0.N, win0_0.index t = ![t.val / 8, 0]
    ∧ win0_1.index t = ![0, 0, t.val % 8]
    ∧ win0_2.index t = ![t.val / 8, t.val % 8]
    ∧ win0_3.index t = ![t.val / 8, t.val % 8] :=
  (by decide +kernel : ∀ t : Fin grid0.N, _)

/-- The tile stored at grid point `t` is the scaled residual plus the product at the entries it covers. -/
theorem tile (c : Dev nD) (t : Fin cfg0.N) (y) :
    k0_pay1 (iblk m c 2 t) (iblk m c 0 t) (iblk m c 1 t) y
      = Cert.Reference3Ideal.Value.down (m ((c : Thread nD τ).loc main_arg0)) (m ((c : Thread nD τ).loc main_arg1))
        (m ((c : Thread nD τ).loc main_arg2)) (((cfg0.win 3).blk t).view.emb y) := by
  pointwise [k0_pay1, Cert.Reference3Ideal.Value.down]
  blk_point [iblk, V, idx_val t]

/-- After the run the result array is the scaled residual plus the product. -/
theorem final (c : Dev nD) : (dats m 0 c).arrAt 3 (cfgs 0).N
    = Cert.Reference3Ideal.Value.down (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp; rw [after0_3]; frame_out
  exact tile m c t y

end Cert.Kernel3Ideal.Value

end

end
-- ==== Proof.InProj.lean ====
module

public import proofs.«01_k».proof.Proof.Gen.Kernel4Ideal.Frame
public import proofs.«01_k».proof.Proof.Gen.Reference4Ideal.Run
public import Idealize.ShloMosaic.Lib.Pipeline.ValueKit

/-! The input projection: the tiled product against the whole one. -/

@[expose] public section

set_option maxRecDepth 16384

noncomputable section

open Idealize.ShloMosaic Idealize.ShloMosaic.TcCoe Idealize.SL.Sem
open Idealize.ShloMosaic.Pipeline (Dat)
open scoped BigOperators

namespace Cert.Reference4Ideal.Value

open Cert.Reference4Ideal.Gen

/-- The projection as the plain model writes it: the rows times the layer's weight matrix. -/
def proj (x : FVec Ideal S16384x4096 .bf16) (w : FVec Ideal S2x4096x10240 .f32) : FVec Ideal S16384x10240 .f32 :=
  Host.dotGeneral dot_S16384x4096_S4096x10240_S16384x10240_1_0_0_1_n_n none (extf .f32 x bitsLt_bf16_f32)
    (shapeCast _ (extractStridedSlice S1x4096x10240 ![0, 0, 0] w slices_S2x4096x10240_S1x4096x10240_0_0_0)
      shapeCasts_S1x4096x10240_S4096x10240)

end Cert.Reference4Ideal.Value

namespace Cert.Kernel4Ideal.Value

open Cert.Kernel4Ideal Cert.Kernel4Ideal.Gen

variable (m : (ℓ : Loc nD τ sig) → Buf (Elt Ideal) ℓ)

/-- Which block each window reads or writes at grid point `t`: ten column tiles per row tile. -/
theorem idx_val : ∀ t : Fin cfg0.N, win0_0.index t = ![t.val / 10, 0]
    ∧ win0_1.index t = ![0, 0, t.val % 10]
    ∧ win0_2.index t = ![t.val / 10, t.val % 10] :=
  (by decide +kernel : ∀ t : Fin grid0.N, _)

/-- The tile stored at grid point `t` is the projection at the entries that tile covers. -/
theorem tile (c : Dev nD) (t : Fin cfg0.N) (y) :
    k0_pay1 (iblk m c 0 t) (iblk m c 1 t) y
      = Cert.Reference4Ideal.Value.proj (m ((c : Thread nD τ).loc main_arg0)) (m ((c : Thread nD τ).loc main_arg1))
        (((cfg0.win 2).blk t).view.emb y) := by
  pointwise [k0_pay1, Cert.Reference4Ideal.Value.proj]
  blk_point [iblk, V, idx_val t]

/-- After the run the result array is the projection. -/
theorem final (c : Dev nD) : (dats m 0 c).arrAt 2 (cfgs 0).N
    = Cert.Reference4Ideal.Value.proj (m ((c : Thread nD τ).loc main_arg0)) (m ((c : Thread nD τ).loc main_arg1)) := by
  refine (dats m 0 c).arrAt_eq_of_covers 2 _ (by decide +kernel) fun t hf y => ?_
  blk_simp; rw [after0_2]; frame_out
  exact tile m c t y

end Cert.Kernel4Ideal.Value

end

end
-- ==== Proof.OutProj.lean ====
module

public import proofs.«01_k».proof.Proof.Gen.Kernel5Ideal.Frame
public import proofs.«01_k».proof.Proof.Gen.Reference5Ideal.Run
public import Idealize.ShloMosaic.Lib.Pipeline.ValueKit

/-! The output projection: three partial products against one product over the concatenated columns. -/

@[expose] public section

set_option maxRecDepth 16384

noncomputable section

open Idealize.ShloMosaic Idealize.ShloMosaic.TcCoe Idealize.SL.Sem
open Idealize.ShloMosaic.Pipeline (Dat)
open scoped BigOperators

namespace Cert.Reference5Ideal.Value

open Cert.Reference5Ideal.Gen

/-- The scaled residual plus the concatenated mixer outputs times the layer's output matrix. -/
def mixed (ya yb : FVec Ideal S16384x1024 .bf16) (yc : FVec Ideal S16384x2048 .bf16) (w : FVec Ideal S2x4096x4096 .f32)
    (h : FVec Ideal S16384x4096 .f32) : FVec Ideal S16384x4096 .f32 :=
  addf (mulf (broadcastInDim S16384x4096 ![] bcast_S_S16384x4096 (constant S_ .f32 0x3FB504F3#32)) h)
    (Host.dotGeneral dot_S16384x4096_S4096x4096_S16384x4096_1_0_0_1_n_n none
      (concatenate S16384x4096 1 [⟨S16384x1024, extf .f32 ya bitsLt_bf16_f32⟩, ⟨S16384x1024, extf .f32 yb bitsLt_bf16_f32⟩,
        ⟨S16384x2048, extf .f32 yc bitsLt_bf16_f32⟩] concatenates_S16384x1024_S16384x1024_S16384x2048_S16384x4096_d1)
      (shapeCast _ (extractStridedSlice S1x4096x4096 ![0, 0, 0] w slices_S2x4096x4096_S1x4096x4096_0_0_0)
        shapeCasts_S1x4096x4096_S4096x4096))

end Cert.Reference5Ideal.Value

namespace Cert.Kernel5Ideal.Value

open Cert.Kernel5Ideal Cert.Kernel5Ideal.Gen

variable (m : (ℓ : Loc nD τ sig) → Buf (Elt Ideal) ℓ)

/-- Which block each window reads or writes at grid point `t`: four column tiles per row tile, and the three row bands
    of the output matrix at the windows 3, 4 and 5. -/
theorem idx_val : ∀ t : Fin cfg0.N, win0_0.index t = ![t.val / 4, 0]
    ∧ win0_1.index t = ![t.val / 4, 0]
    ∧ win0_2.index t = ![t.val / 4, 0]
    ∧ win0_3.index t = ![0, 0, t.val % 4]
    ∧ win0_4.index t = ![0, 1, t.val % 4]
    ∧ win0_5.index t = ![0, 1, t.val % 4]
    ∧ win0_6.index t = ![t.val / 4, t.val % 4]
    ∧ win0_7.index t = ![t.val / 4, t.val % 4] :=
  (by decide +kernel : ∀ t : Fin grid0.N, _)

/-- The tile stored at grid point `t` is the scaled residual plus the whole product at the entries it covers. -/
theorem tile (c : Dev nD) (t : Fin cfg0.N) (y) :
    k0_pay1 (iblk m c 0 t) (iblk m c 3 t) (iblk m c 1 t) (iblk m c 4 t) (iblk m c 2 t) (iblk m c 5 t) (iblk m c 6 t) y
      = Cert.Reference5Ideal.Value.mixed (m ((c : Thread nD τ).loc main_arg0)) (m ((c : Thread nD τ).loc main_arg1))
        (m ((c : Thread nD τ).loc main_arg2)) (m ((c : Thread nD τ).loc main_arg3)) (m ((c : Thread nD τ).loc main_arg4))
        (((cfg0.win 7).blk t).view.emb y) := by
  pointwise [k0_pay1, Cert.Reference5Ideal.Value.mixed, sumSplitAll]
  refine Ideal.add_congr ?_ (Eq.trans (add_assoc (_ : EReal) _ _) (Ideal.add_congr ?_ (Ideal.add_congr ?_ ?_)))
  all_goals first
    | refine Finset.sum_congr rfl fun k _ => Ideal.mul_congr ?_ ?_ <;> blk_point [iblk, V, idx_val t]
    | blk_point [iblk, V, idx_val t]

/-- After the run the result array is the scaled residual plus the whole product. -/
theorem final (c : Dev nD) : (dats m 0 c).arrAt 7 (cfgs 0).N
    = Cert.Reference5Ideal.Value.mixed (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]; frame_out
  exact tile m c t y

end Cert.Kernel5Ideal.Value

end

end
-- ==== Proof.LayerNorm.lean ====
module

public import proofs.«01_k».proof.Proof.Gen.Kernel6Ideal.Frame
public import proofs.«01_k».proof.Proof.Gen.Reference6Ideal.Run
public import Idealize.ShloMosaic.Lib.Pipeline.ValueKit

/-! The layer norm, a block of rows at a time. -/

@[expose] public section

set_option maxRecDepth 16384

noncomputable section

open Idealize.ShloMosaic Idealize.ShloMosaic.TcCoe Idealize.SL.Sem
open Idealize.ShloMosaic.Pipeline (Dat)
open scoped BigOperators

namespace Cert.Reference6Ideal.Value

open Cert.Reference6Ideal.Gen

/-- The row means, as a column. -/
def mean (x : FVec Ideal S16384x4096 .f32) : FVec Ideal S16384x1 .f32 :=
  Host.divf (broadcastInDim S16384x1 ![0] bcast_S16384_S16384x1_0
      (Host.reduceAdd x (constant S_ .f32 0x00000000#32) reducesTo_S16384x4096_S16384_d1 h_S_))
    (broadcastInDim S16384x1 ![] bcast_S_S16384x1 (constant S_ .f32 0x45800000#32))

/-- Each entry less its row's mean. -/
def centred (x : FVec Ideal S16384x4096 .f32) : FVec Ideal S16384x4096 .f32 :=
  subf x (broadcastInDim S16384x4096 ![0, 1] bcast_S16384x1_S16384x4096_0_1 (mean x))

/-- The layer norm: centred rows over the root of their variance, then scale and shift. -/
def norm (x : FVec Ideal S16384x4096 .f32) (w b : FVec Ideal S4096 .f32) : FVec Ideal S16384x4096 .f32 :=
  addf
    (mulf
      (mulf (centred x)
        (broadcastInDim S16384x4096 ![0, 1] bcast_S16384x1_S16384x4096_0_1
          (Host.rsqrt (addf (mean (mulf (centred x) (centred x)))
            (broadcastInDim S16384x1 ![] bcast_S_S16384x1 (constant S_ .f32 0x3727C5AC#32))))))
      (broadcastInDim S16384x4096 ![0, 1] bcast_S1x4096_S16384x4096_0_1 (broadcastInDim S1x4096 ![1] bcast_S4096_S1x4096_1 w)))
    (broadcastInDim S16384x4096 ![0, 1] bcast_S1x4096_S16384x4096_0_1 (broadcastInDim S1x4096 ![1] bcast_S4096_S1x4096_1 b))

end Cert.Reference6Ideal.Value

namespace Cert.Kernel6Ideal.Value

open Cert.Kernel6Ideal Cert.Kernel6Ideal.Gen

variable (m : (ℓ : Loc nD τ sig) → Buf (Elt Ideal) ℓ)

/-- Which block each window reads or writes at grid point `t`: the `t`-th band of rows, the scale and shift whole. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- The band stored at grid point `t` is the layer norm at the rows it covers. -/
theorem band (c : Dev nD) (t : Fin cfg0.N) (y) :
    k0_pay1 (iblk m c 0 t) (iblk m c 1 t) (iblk m c 2 t) y
      = Cert.Reference6Ideal.Value.norm (m ((c : Thread nD τ).loc main_arg0)) (m ((c : Thread nD τ).loc main_arg1))
        (m ((c : Thread nD τ).loc main_arg2)) (((cfg0.win 3).blk t).view.emb y) := by
  pointwise [k0_pay1, Cert.Reference6Ideal.Value.norm, Cert.Reference6Ideal.Value.centred, Cert.Reference6Ideal.Value.mean]
  blk_point [iblk, V, idx_val t]

/-- The same at the window of the narrow copy. -/
theorem band_bf16 (c : Dev nD) (t : Fin cfg0.N) (y) :
    k0_pay2 (iblk m c 0 t) (iblk m c 1 t) (iblk m c 2 t) y
      = Cert.Reference6Ideal.Value.norm (m ((c : Thread nD τ).loc main_arg0)) (m ((c : Thread nD τ).loc main_arg1))
        (m ((c : Thread nD τ).loc main_arg2)) (((cfg0.win 4).blk t).view.emb y) := by
  pointwise [k0_pay2, k0_pay1, Cert.Reference6Ideal.Value.norm, Cert.Reference6Ideal.Value.centred,
    Cert.Reference6Ideal.Value.mean]
  blk_point [iblk, V, idx_val t]

/-- After the run the first result array is the layer norm. -/
theorem final (c : Dev nD) : (dats m 0 c).arrAt 3 (cfgs 0).N
    = Cert.Reference6Ideal.Value.norm (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp; rw [after0_3]; frame_out
  exact band m c t y

/-- After the run the second result array is the layer norm too (at the ideal values a change of format is nothing). -/
theorem final_bf16 (c : Dev nD) : (dats m 0 c).arrAt 4 (cfgs 0).N
    = truncf (F := Ideal) .bf16 (Cert.Reference6Ideal.Value.norm (m ((c : Thread nD τ).loc main_arg0))
      (m ((c : Thread nD τ).loc main_arg1)) (m ((c : Thread nD τ).loc main_arg2))) Cert.Reference6Ideal.Gen.bitsLt_bf16_f32 := by
  refine (dats m 0 c).arrAt_eq_of_covers 4 _ (by decide +kernel) fun t hf y => ?_
  blk_simp; rw [after0_4]; frame_out
  exact band_bf16 m c t y

end Cert.Kernel6Ideal.Value

end

end
-- ==== Proof.FfnUpBits.lean ====
module

public import proofs.«01_k».proof.Defs
public import proofs.«01_k».proof.Proof.FfnUpRun
public import proofs.«01_k».proof.Proof.Gen.Kernel2

/-! The run of the up projections on the machine's floats, taken from the run over any floats: the two programs have the same text. -/

@[expose] public section

set_option maxRecDepth 16384

noncomputable section

namespace Cert.Kernel2Ideal.Run

open Idealize.ShloMosaic Idealize.ShloMosaic.TcCoe Idealize.SL.Sem

theorem bodies_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl
  | ⟨_ + 1, h⟩, _ => exact absurd h (Nat.not_lt.2 (Nat.le_add_left _ _))

theorem defs_eq : Cert.Kernel2.defs (F := Bits) = Cert.Kernel2Ideal.defs (F := Bits) := by
  unfold Cert.Kernel2.defs Cert.Kernel2Ideal.defs
  exact congrArg (Pipeline.defs Cert.Kernel2Ideal.pcfgs) bodies_eq

/-- On the machine's floats the program ends with its arguments unchanged and its counters at zero. -/
theorem frame_bits : Cert.quiescent_Kernel2 := fun m ρ _ => by
  rw [defs_eq]
  exact frame (F := Bits) m ρ

end Cert.Kernel2Ideal.Run

end

end
-- ==== Proof.AttnPrep.lean ====
module

public import proofs.«01_k».proof.Proof.Gen.Kernel7Ideal.Frame
public import proofs.«01_k».proof.Proof.Gen.Reference7Ideal.Run
public import Idealize.ShloMosaic.Lib.Pipeline.ValueKit
public import Idealize.ShloMosaic.Lib.StableHlo.ReadAt

/-! The norm and the rotation of the queries and keys, head by head, and the values turned over. -/

@[expose] public section

set_option maxRecDepth 16384

noncomputable section

open Idealize.ShloMosaic Idealize.ShloMosaic.TcCoe Idealize.SL.Sem
open Idealize.ShloMosaic.Pipeline (Dat)
open scoped BigOperators

namespace Cert.Reference7Ideal.Value

open Cert.Reference7Ideal Cert.Reference7Ideal.Gen

/-- The frequencies: ten thousand to the power of minus twice the lane over sixty-four. -/
def freq : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
      (broadcastInDim S32 ![] bcast_S_S32 (constant S_ .f32 0x42800000#32)))

/-- A coordinate of every position times every frequency. -/
def turns (p : FVec Ideal S2048 .f32) : FVec Ideal S2048x32 .f32 :=
  mulf (broadcastInDim S2048x32 ![0, 1] bcast_S2048x1_S2048x32_0_1 (broadcastInDim S2048x1 ![0] bcast_S2048_S2048x1_0 p))
    (broadcastInDim S2048x32 ![0, 1] bcast_S1x32_S2048x32_0_1 (broadcastInDim S1x32 ![1] bcast_S32_S1x32_1 freq))

/-- The angles by the position's row in the grid. -/
def byRow : FVec Ideal S2048x32 .f32 :=
  turns (sitofp .f32 (shapeCast _ (broadcastInDim S32x64 ![0] bcast_S32_S32x64_0 (iotaInDim S32 32 0)) shapeCasts_S32x64_S2048))

/-- The angles by the position's column in the grid. -/
def byCol : FVec Ideal S2048x32 .f32 :=
  turns (sitofp .f32 (shapeCast _ (broadcastInDim S32x64 ![1] bcast_S64_S32x64_1 (iotaInDim S64 32 0)) shapeCasts_S32x64_S2048))

/-- The angle of every position and lane. -/
def angles : FVec Ideal S2048x128 .f32 :=
  concatenate S2048x128 1 [⟨S2048x32, byRow⟩, ⟨S2048x32, byRow⟩, ⟨S2048x32, byCol⟩, ⟨S2048x32, byCol⟩]
    concatenates_S2048x32_S2048x32_S2048x32_S2048x32_S2048x128_d1

/-- The query columns, as heads. -/
def qheads (u : FVec Ideal S16384x10240 .f32) : FVec Ideal S8x2048x16x128 .f32 :=
  shapeCast _ (extractStridedSlice S8x2048x2048 ![0, 0, 0] (extractStridedSlice S8x2048x3072 ![0, 0, 7168]
    (shapeCast _ u shapeCasts_S16384x10240_S8x2048x10240) slices_S8x2048x10240_S8x2048x3072_0_0_7168)
    slices_S8x2048x3072_S8x2048x2048_0_0_0) shapeCasts_S8x2048x2048_S8x2048x16x128

/-- Each query head over the root of its mean square, times the weight. -/
def qnormed (x : FVec Ideal S8x2048x16x128 .f32) (w : FVec Ideal S2x128 .f32) : FVec Ideal S8x2048x16x128 .f32 :=
  mulf (mulf x (broadcastInDim S8x2048x16x128 ![0, 1, 2, 3] bcast_S8x2048x16x1_S8x2048x16x128_0_1_2_3
      (Host.rsqrt (addf (Host.divf (broadcastInDim S8x2048x16x1 ![0, 1, 2] bcast_S8x2048x16_S8x2048x16x1_0_1_2
          (Host.reduceAdd (mulf x x) (constant S_ .f32 0x00000000#32) reducesTo_S8x2048x16x128_S8x2048x16_d3 h_S_))
          (broadcastInDim S8x2048x16x1 ![] bcast_S_S8x2048x16x1 (constant S_ .f32 0x43000000#32)))
        (broadcastInDim S8x2048x16x1 ![] bcast_S_S8x2048x16x1 (constant S_ .f32 0x358637BD#32))))))
    (broadcastInDim S8x2048x16x128 ![0, 1, 2, 3] bcast_S1x1x1x128_S8x2048x16x128_0_1_2_3 (broadcastInDim S1x1x1x128 ![3] bcast_S128_S1x1x1x128_3
      (shapeCast _ (extractStridedSlice S1x128 ![0, 0] w slices_S2x128_S1x128_0_0) shapeCasts_S1x128_S128)))

/-- The lanes of a query head, quarters swapped in pairs with a change of sign. -/
def qswapped (x : FVec Ideal S8x2048x16x128 .f32) : FVec Ideal S8x2048x16x128 .f32 :=
  concatenate S8x2048x16x128 3 [⟨S8x2048x16x32, Host.negf (extractStridedSlice S8x2048x16x32 ![0, 0, 0, 32] x slices_S8x2048x16x128_S8x2048x16x32_0_0_0_32)⟩,
    ⟨S8x2048x16x32, extractStridedSlice S8x2048x16x32 ![0, 0, 0, 0] x slices_S8x2048x16x128_S8x2048x16x32_0_0_0_0⟩,
    ⟨S8x2048x16x32, Host.negf (extractStridedSlice S8x2048x16x32 ![0, 0, 0, 96] x slices_S8x2048x16x128_S8x2048x16x32_0_0_0_96)⟩,
    ⟨S8x2048x16x32, extractStridedSlice S8x2048x16x32 ![0, 0, 0, 64] x slices_S8x2048x16x128_S8x2048x16x32_0_0_0_64⟩]
    concatenates_S8x2048x16x32_S8x2048x16x32_S8x2048x16x32_S8x2048x16x32_S8x2048x16x128_d3

/-- A table laid over every query head. -/
def qspread (t : FVec Ideal S2048x128 .f32) : FVec Ideal S8x2048x16x128 .f32 :=
  broadcastInDim S8x2048x16x128 ![0, 1, 2, 3] bcast_S1x2048x1x128_S8x2048x16x128_0_1_2_3 (broadcastInDim S1x2048x1x128 ![1, 2, 3]
    bcast_S2048x1x128_S1x2048x1x128_1_2_3 (broadcastInDim S2048x1x128 ![0, 2] bcast_S2048x128_S2048x1x128_0_2 t))

/-- Each query head turned by its position's angles. -/
def qturned (x : FVec Ideal S8x2048x16x128 .f32) : FVec Ideal S8x2048x16x128 .f32 :=
  addf (mulf x (qspread (Host.cos angles))) (mulf (qswapped x) (qspread (Host.sin angles)))

/-- The rotated query rows, heads side by side. -/
def qout (u : FVec Ideal S16384x10240 .f32) (w : FVec Ideal S2x128 .f32) : FVec Ideal S16384x2048 .bf16 :=
  truncf .bf16 (shapeCast _ (qturned (qnormed (qheads u) w)) shapeCasts_S8x2048x16x128_S16384x2048) bitsLt_bf16_f32

/-- The key columns, as heads. -/
def kheads (u : FVec Ideal S16384x10240 .f32) : FVec Ideal S8x2048x4x128 .f32 :=
  shapeCast _ (extractStridedSlice S8x2048x512 ![0, 0, 2048] (extractStridedSlice S8x2048x3072 ![0, 0, 7168]
    (shapeCast _ u shapeCasts_S16384x10240_S8x2048x10240) slices_S8x2048x10240_S8x2048x3072_0_0_7168)
    slices_S8x2048x3072_S8x2048x512_0_0_2048) shapeCasts_S8x2048x512_S8x2048x4x128

/-- Each key head over the root of its mean square, times the weight. -/
def knormed (x : FVec Ideal S8x2048x4x128 .f32) (w : FVec Ideal S2x128 .f32) : FVec Ideal S8x2048x4x128 .f32 :=
  mulf (mulf x (broadcastInDim S8x2048x4x128 ![0, 1, 2, 3] bcast_S8x2048x4x1_S8x2048x4x128_0_1_2_3
      (Host.rsqrt (addf (Host.divf (broadcastInDim S8x2048x4x1 ![0, 1, 2] bcast_S8x2048x4_S8x2048x4x1_0_1_2
          (Host.reduceAdd (mulf x x) (constant S_ .f32 0x00000000#32) reducesTo_S8x2048x4x128_S8x2048x4_d3 h_S_))
          (broadcastInDim S8x2048x4x1 ![] bcast_S_S8x2048x4x1 (constant S_ .f32 0x43000000#32)))
        (broadcastInDim S8x2048x4x1 ![] bcast_S_S8x2048x4x1 (constant S_ .f32 0x358637BD#32))))))
    (broadcastInDim S8x2048x4x128 ![0, 1, 2, 3] bcast_S1x1x1x128_S8x2048x4x128_0_1_2_3 (broadcastInDim S1x1x1x128 ![3] bcast_S128_S1x1x1x128_3
      (shapeCast _ (extractStridedSlice S1x128 ![0, 0] w slices_S2x128_S1x128_0_0) shapeCasts_S1x128_S128)))

/-- The lanes of a key head, quarters swapped in pairs with a change of sign. -/
def kswapped (x : FVec Ideal S8x2048x4x128 .f32) : FVec Ideal S8x2048x4x128 .f32 :=
  concatenate S8x2048x4x128 3 [⟨S8x2048x4x32, Host.negf (extractStridedSlice S8x2048x4x32 ![0, 0, 0, 32] x slices_S8x2048x4x128_S8x2048x4x32_0_0_0_32)⟩,
    ⟨S8x2048x4x32, extractStridedSlice S8x2048x4x32 ![0, 0, 0, 0] x slices_S8x2048x4x128_S8x2048x4x32_0_0_0_0⟩,
    ⟨S8x2048x4x32, Host.negf (extractStridedSlice S8x2048x4x32 ![0, 0, 0, 96] x slices_S8x2048x4x128_S8x2048x4x32_0_0_0_96)⟩,
    ⟨S8x2048x4x32, extractStridedSlice S8x2048x4x32 ![0, 0, 0, 64] x slices_S8x2048x4x128_S8x2048x4x32_0_0_0_64⟩]
    concatenates_S8x2048x4x32_S8x2048x4x32_S8x2048x4x32_S8x2048x4x32_S8x2048x4x128_d3

/-- A table laid over every key head. -/
def kspread (t : FVec Ideal S2048x128 .f32) : FVec Ideal S8x2048x4x128 .f32 :=
  broadcastInDim S8x2048x4x128 ![0, 1, 2, 3] bcast_S1x2048x1x128_S8x2048x4x128_0_1_2_3 (broadcastInDim S1x2048x1x128 ![1, 2, 3]
    bcast_S2048x1x128_S1x2048x1x128_1_2_3 (broadcastInDim S2048x1x128 ![0, 2] bcast_S2048x128_S2048x1x128_0_2 t))

/-- Each key head turned by its position's angles. -/
def kturned (x : FVec Ideal S8x2048x4x128 .f32) : FVec Ideal S8x2048x4x128 .f32 :=
  addf (mulf x (kspread (Host.cos angles))) (mulf (kswapped x) (kspread (Host.sin angles)))

/-- The rotated key rows, heads side by side. -/
def kout (u : FVec Ideal S16384x10240 .f32) (w : FVec Ideal S2x128 .f32) : FVec Ideal S16384x512 .bf16 :=
  truncf .bf16 (shapeCast _ (kturned (knormed (kheads u) w)) shapeCasts_S8x2048x4x128_S16384x512) bitsLt_bf16_f32

/-- The value columns, turned over. -/
def vout (u : FVec Ideal S16384x10240 .f32) : FVec Ideal S512x16384 .bf16 :=
  truncf .bf16 (transpose S512x16384 [1, 0] (shapeCast _ (extractStridedSlice S8x2048x512 ![0, 0, 2560] (extractStridedSlice S8x2048x3072 ![0, 0, 7168]
    (shapeCast _ u shapeCasts_S16384x10240_S8x2048x10240) slices_S8x2048x10240_S8x2048x3072_0_0_7168)
    slices_S8x2048x3072_S8x2048x512_0_0_2560) shapeCasts_S8x2048x512_S16384x512) transposes_S16384x512_S512x16384_1_0) bitsLt_bf16_f32

/-- The reference's first result in these pieces. -/
theorem qres_eq (m : (ℓ : Loc nD τ sig) → Buf (Elt Ideal) ℓ) (c : Dev nD) : res_main_v100 m c
    = qout (m ((c.tc : Thread nD τ).loc main_arg0)) (m ((c.tc : Thread nD τ).loc main_arg1)) := rfl

/-- The reference's second result in these pieces. -/
theorem kres_eq (m : (ℓ : Loc nD τ sig) → Buf (Elt Ideal) ℓ) (c : Dev nD) : res_main_v102 m c
    = kout (m ((c.tc : Thread nD τ).loc main_arg0)) (m ((c.tc : Thread nD τ).loc main_arg2)) := rfl

/-- A row of lanes over the root of its mean square, times the weight. -/
def nrm (x w : Fin 128 → EReal) (d : Fin 128) : EReal :=
  x d * Ideal.rsqrt (Ideal.div (∑ k : Fin 128, x k * x k) (Ideal.ofBits FTy.f32 0x43000000#32) + Ideal.ofBits FTy.f32 0x358637BD#32) * w d

/-- A row of lanes turned by a row of angles, the quarters swapped in pairs. -/
def spun (n a : Fin 128 → EReal) (d : Fin 128) : EReal :=
  n d * Ideal.cos (a d) + (if d.val / 32 % 2 = 0 then -n ⟨(d.val + 32) % 128, Nat.mod_lt _ (by decide)⟩
    else n ⟨(d.val + 96) % 128, Nat.mod_lt _ (by decide)⟩) * Ideal.sin (a d)

/-- The normed query heads, read at an entry. -/
theorem qnormed_apply (x : FVec Ideal S8x2048x16x128 .f32) (w : FVec Ideal S2x128 .f32) (b s h d) :
    qnormed x w (ix4 b s h d) = nrm (fun k => x (ix4 b s h k)) (fun k => w (ix2 0 k)) d := by
  unfold nrm
  pointwise [qnormed]

/-- The normed key heads, read at an entry. -/
theorem knormed_apply (x : FVec Ideal S8x2048x4x128 .f32) (w : FVec Ideal S2x128 .f32) (b s h d) :
    knormed x w (ix4 b s h d) = nrm (fun k => x (ix4 b s h k)) (fun k => w (ix2 0 k)) d := by
  unfold nrm
  pointwise [knormed]

/-- The four quarters' choice is one of two: the quarter after, with its sign changed, or the quarter before. -/
theorem quarters (n : Fin 128 → EReal) (d : Fin 128) (h1 : 32 + d.val < 128 ∨ ¬ d.val < 32) (e : EReal)
    (e0 : (h : d.val < 32) → e = -n ⟨32 + d.val, by omega⟩)
    (e1 : (h : 32 ≤ d.val) → (h' : d.val < 64) → e = n ⟨d.val - 32, by omega⟩)
    (e2 : (h : 64 ≤ d.val) → (h' : d.val < 96) → e = -n ⟨96 + (d.val - 32 - 32), by omega⟩)
    (e3 : (h : 96 ≤ d.val) → e = n ⟨64 + (d.val - 32 - 32 - 32), by omega⟩) :
    e = if d.val / 32 % 2 = 0 then -n ⟨(d.val + 32) % 128, Nat.mod_lt _ (by decide)⟩
      else n ⟨(d.val + 96) % 128, Nat.mod_lt _ (by decide)⟩ := by
  have hd := d.isLt
  by_cases c0 : d.val < 32
  · rw [e0 c0, if_pos (by omega)]
    exact congrArg (fun k => -n k) (Fin.ext (by show 32 + d.val = (d.val + 32) % 128; omega))
  · by_cases c1 : d.val < 64
    · rw [e1 (by omega) c1, if_neg (by omega)]
      exact congrArg n (Fin.ext (by show d.val - 32 = (d.val + 96) % 128; omega))
    · by_cases c2 : d.val < 96
      · rw [e2 (by omega) c2, if_pos (by omega)]
        exact congrArg (fun k => -n k) (Fin.ext (by show 96 + (d.val - 32 - 32) = (d.val + 32) % 128; omega))
      · rw [e3 (by omega), if_neg (by omega)]
        exact congrArg n (Fin.ext (by show 64 + (d.val - 32 - 32 - 32) = (d.val + 96) % 128; omega))

/-- The turned query heads, read at an entry. -/
theorem qturned_apply (x : FVec Ideal S8x2048x16x128 .f32) (b s h d) :
    qturned x (ix4 b s h d) = spun (fun k => x (ix4 b s h k)) (fun k => angles (ix2 s k)) d := by
  unfold spun
  pointwise [qturned, qswapped, qspread]
  refine congrArg (fun e => x (ix4 b s h d) * Ideal.cos (angles (ix2 s d)) + e * Ideal.sin (angles (ix2 s d))) ?_
  have hd := d.isLt
  refine quarters (fun k => x (ix4 b s h k)) d (by omega) _ (fun h0 => dif_pos h0) (fun h0 h1 => ?_) (fun h0 h1 => ?_) (fun h0 => ?_)
  · rw [dif_neg (by omega), dif_pos (by omega)]
  · rw [dif_neg (by omega), dif_neg (by omega), dif_pos (by omega)]
  · rw [dif_neg (by omega), dif_neg (by omega), dif_neg (by omega)]

/-- The turned key heads, read at an entry. -/
theorem kturned_apply (x : FVec Ideal S8x2048x4x128 .f32) (b s h d) :
    kturned x (ix4 b s h d) = spun (fun k => x (ix4 b s h k)) (fun k => angles (ix2 s k)) d := by
  unfold spun
  pointwise [kturned, kswapped, kspread]
  refine congrArg (fun e => x (ix4 b s h d) * Ideal.cos (angles (ix2 s d)) + e * Ideal.sin (angles (ix2 s d))) ?_
  have hd := d.isLt
  refine quarters (fun k => x (ix4 b s h k)) d (by omega) _ (fun h0 => dif_pos h0) (fun h0 h1 => ?_) (fun h0 h1 => ?_) (fun h0 => ?_)
  · rw [dif_neg (by omega), dif_pos (by omega)]
  · rw [dif_neg (by omega), dif_neg (by omega), dif_pos (by omega)]
  · rw [dif_neg (by omega), dif_neg (by omega), dif_neg (by omega)]

/-- The query heads, read at an entry. -/
theorem qheads_apply (u : FVec Ideal S16384x10240 .f32) (b : Fin 8) (s : Fin 2048) (h : Fin 16) (d : Fin 128) :
    qheads u (ix4 b s h d) = u (ix2 ⟨b.val * 2048 + s.val, by omega⟩ ⟨7168 + (h.val * 128 + d.val), by omega⟩) := by
  pointwise [qheads]

/-- The key heads, read at an entry. -/
theorem kheads_apply (u : FVec Ideal S16384x10240 .f32) (b : Fin 8) (s : Fin 2048) (h : Fin 4) (d : Fin 128) :
    kheads u (ix4 b s h d) = u (ix2 ⟨b.val * 2048 + s.val, by omega⟩ ⟨9216 + (h.val * 128 + d.val), by omega⟩) := by
  pointwise [kheads]
  exact congrArg (fun k => u (ix2 _ k)) (Fin.ext (by show 7168 + (2048 + (h.val * 128 + d.val)) = 9216 + (h.val * 128 + d.val); omega))

/-- The rotated queries, read at an entry. -/
theorem qout_apply (u : FVec Ideal S16384x10240 .f32) (w : FVec Ideal S2x128 .f32) (i : Fin 16384) (e : Fin 2048) :
    qout u w (ix2 i e) = spun (nrm (fun k => u (ix2 i ⟨7168 + (e.val / 128 * 128 + k.val), by omega⟩)) (fun k => w (ix2 0 k)))
      (fun k => angles (ix2 ⟨i.val % 2048, by omega⟩ k)) ⟨e.val % 128, by omega⟩ := by
  have hi : ∀ p, (⟨i.val / 2048 * 2048 + i.val % 2048, p⟩ : Fin 16384) = i := fun p => Fin.ext (by show i.val / 2048 * 2048 + i.val % 2048 = i.val; omega)
  pointwise [qout]
  simp only [qturned_apply, qnormed_apply, qheads_apply, hi]

/-- The rotated keys, read at an entry. -/
theorem kout_apply (u : FVec Ideal S16384x10240 .f32) (w : FVec Ideal S2x128 .f32) (i : Fin 16384) (e : Fin 512) :
    kout u w (ix2 i e) = spun (nrm (fun k => u (ix2 i ⟨9216 + (e.val / 128 * 128 + k.val), by omega⟩)) (fun k => w (ix2 0 k)))
      (fun k => angles (ix2 ⟨i.val % 2048, by omega⟩ k)) ⟨e.val % 128, by omega⟩ := by
  have hi : ∀ p, (⟨i.val / 2048 * 2048 + i.val % 2048, p⟩ : Fin 16384) = i := fun p => Fin.ext (by show i.val / 2048 * 2048 + i.val % 2048 = i.val; omega)
  pointwise [kout]
  simp only [kturned_apply, knormed_apply, kheads_apply, hi]

/-- The values turned over, read at an entry. -/
theorem vout_apply (u : FVec Ideal S16384x10240 .f32) (e : Fin 512) (i : Fin 16384) :
    vout u (ix2 e i) = u (ix2 i ⟨9728 + e.val, by omega⟩) := by
  pointwise [vout]
  exact congrArg (fun k => u (ix2 i k)) (Fin.ext (by show 7168 + (2560 + e.val) = 9728 + e.val; omega))

end Cert.Reference7Ideal.Value

namespace Cert.Kernel7Ideal.Value
open Cert.Kernel7Ideal Cert.Kernel7Ideal.Gen
open Cert.Reference7Ideal.Value (nrm spun angles)

/-- One head of the kernel's block, read at an entry. -/
theorem head_apply (a b c : FVec Ideal S1024x128 .f32) (w : FVec Ideal S1x128 .f32) (x : FVec Ideal S1024x128 .f32) (r : Fin 1024) (d : Fin 128) :
    k0_pay10 a b c w x (ix2 r d) = nrm (fun k => x (ix2 r k)) (fun k => w (ix2 0 k)) d * a (ix2 r d)
      + nrm (fun k => x (ix2 r k)) (fun k => w (ix2 0 k)) ⟨(d.val + 32) % 128, Nat.mod_lt _ (by decide)⟩ * b (ix2 r d)
      + nrm (fun k => x (ix2 r k)) (fun k => w (ix2 0 k)) ⟨(d.val + 96) % 128, Nat.mod_lt _ (by decide)⟩ * c (ix2 r d) := by
  have e1 : ∀ p, (⟨(d.val + 128 - 96) % 128, p⟩ : Fin 128) = ⟨(d.val + 32) % 128, Nat.mod_lt _ (by decide)⟩ :=
    fun p => Fin.ext (by show (d.val + 128 - 96) % 128 = (d.val + 32) % 128; omega)
  have e2 : ∀ p, (⟨(d.val + 128 - 32) % 128, p⟩ : Fin 128) = ⟨(d.val + 96) % 128, Nat.mod_lt _ (by decide)⟩ :=
    fun p => Fin.ext (by show (d.val + 128 - 32) % 128 = (d.val + 96) % 128; omega)
  unfold nrm
  pointwise [k0_pay10]
  simp only [e1, e2]

/-- The kernel's two rolls against two tables make the one turn. -/
theorem turn (n a : Fin 128 → EReal) (d : Fin 128) (ca sa sb : EReal) (hc : ca = Ideal.cos (a d))
    (ha : sa = if d.val / 32 % 2 = 0 then -Ideal.sin (a d) else 0) (hb : sb = if d.val / 32 % 2 = 0 then 0 else Ideal.sin (a d)) :
    n d * ca + n ⟨(d.val + 32) % 128, Nat.mod_lt _ (by decide)⟩ * sa + n ⟨(d.val + 96) % 128, Nat.mod_lt _ (by decide)⟩ * sb = spun n a d := by
  unfold spun
  subst hc ha hb
  split
  · rw [mul_zero, add_zero, mul_neg, neg_mul]
  · rw [mul_zero, add_zero]

/-- The same head as another stretch of the program spells it. -/
theorem pay7_eq (a b c : FVec Ideal S1024x128 .f32) (w : FVec Ideal S1x128 .f32) (x : FVec Ideal S1024x128 .f32) :
    k0_pay7 (F := Ideal) a b c w x = k0_pay10 (F := Ideal) (k0_pay2 a) (k0_pay3 b) (k0_pay4 c) (k0_pay5 w) x := rfl

/-- The same head as another stretch of the program spells it. -/
theorem pay9_eq (a b c : FVec Ideal S1024x128 .f32) (w : FVec Ideal S1x128 .f32) (x : FVec Ideal S1024x128 .f32) :
    k0_pay9 (F := Ideal) a b c w x (k0_pay8 x) = k0_pay10 (F := Ideal) a b c w x := rfl

/-- The same head as another stretch of the program spells it. -/
theorem pay11_eq (a b c : FVec Ideal S1024x128 .f32) (w : FVec Ideal S1x128 .f32) (x : FVec Ideal S1024x128 .f32) :
    k0_pay11 (F := Ideal) a b c w x = k0_pay10 (F := Ideal) a b c w x := rfl

/-- The same head as another stretch of the program spells it. -/
theorem pay12_eq (a b c : FVec Ideal S1024x128 .f32) (w : FVec Ideal S1x128 .f32) (x : FVec Ideal S1024x128 .f32) :
    k0_pay12 (F := Ideal) a b c w x = k0_pay10 (F := Ideal) a b c w x := rfl

/-- The same head as another stretch of the program spells it. -/
theorem pay13_eq (a b c : FVec Ideal S1024x128 .f32) (w : FVec Ideal S1x128 .f32) (x : FVec Ideal S1024x128 .f32) :
    k0_pay13 (F := Ideal) a b c w x = k0_pay10 (F := Ideal) a b c w x := rfl

/-- The same head as another stretch of the program spells it. -/
theorem pay16_eq (a b c : FVec Ideal S1024x128 .f32) (w : FVec Ideal S1x128 .f32) (x : FVec Ideal S1024x128 .f32) :
    k0_pay16 (F := Ideal) a b c w x = k0_pay10 (F := Ideal) a b c w x := rfl

/-- The same head as another stretch of the program spells it. -/
theorem pay20_eq (a b c : FVec Ideal S1024x128 .f32) (w : FVec Ideal S1x128 .f32) (x : FVec Ideal S1024x128 .f32) :
    k0_pay20 (F := Ideal) a b c w x = k0_pay10 (F := Ideal) a b c w x := rfl

/-- The same head as another stretch of the program spells it. -/
theorem pay24_eq (a b c : FVec Ideal S1024x128 .f32) (w : FVec Ideal S1x128 .f32) (x : FVec Ideal S1024x128 .f32) :
    k0_pay24 (F := Ideal) a b c w x = k0_pay10 (F := Ideal) a b c w x := rfl

/-- The same head as another stretch of the program spells it. -/
theorem pay27_eq (a b c : FVec Ideal S1024x128 .f32) (w : FVec Ideal S1x128 .f32) (x : FVec Ideal S1024x128 .f32) :
    k0_pay27 (F := Ideal) a b c w x = k0_pay10 (F := Ideal) a b c w x := rfl

/-- The same head as another stretch of the program spells it. -/
theorem pay30_eq (a b c : FVec Ideal S1024x128 .f32) (w : FVec Ideal S1x128 .f32) (x : FVec Ideal S1024x128 .f32) :
    k0_pay30 (F := Ideal) a b c w x = k0_pay10 (F := Ideal) a b c w x := rfl

/-- The same head as another stretch of the program spells it. -/
theorem pay33_eq (a b c : FVec Ideal S1024x128 .f32) (w : FVec Ideal S1x128 .f32) (x : FVec Ideal S1024x128 .f32) :
    k0_pay33 (F := Ideal) a b c w x = k0_pay10 (F := Ideal) a b c w x := rfl

/-- The same head as another stretch of the program spells it. -/
theorem pay34_eq (a b c : FVec Ideal S1024x128 .f32) (w : FVec Ideal S1x128 .f32) (x : FVec Ideal S1024x128 .f32) :
    k0_pay34 (F := Ideal) a b c w x = k0_pay10 (F := Ideal) a b c w x := rfl

/-- The same head as another stretch of the program spells it. -/
theorem pay35_eq (a b c : FVec Ideal S1024x128 .f32) (w : FVec Ideal S1x128 .f32) (x : FVec Ideal S1024x128 .f32) :
    k0_pay35 (F := Ideal) a b c w x = k0_pay10 (F := Ideal) a b c w x := rfl

/-- The same head as another stretch of the program spells it. -/
theorem pay15_eq (a b c : FVec Ideal S1024x128 .f32) (w : FVec Ideal S1x128 .f32) (x : FVec Ideal S1024x128 .f32) :
    k0_pay15 (F := Ideal) (k0_pay14 a b c w x) = k0_pay10 (F := Ideal) a b c w x := rfl

/-- The same head as another stretch of the program spells it. -/
theorem pay19_eq (a b c : FVec Ideal S1024x128 .f32) (w : FVec Ideal S1x128 .f32) (x : FVec Ideal S1024x128 .f32) :
    k0_pay19 (F := Ideal) c (k0_pay17 w x) (k0_pay18 a b w x) = k0_pay10 (F := Ideal) a b c w x := rfl

/-- The same head as another stretch of the program spells it. -/
theorem pay23_eq (a b c : FVec Ideal S1024x128 .f32) (w : FVec Ideal S1x128 .f32) (x : FVec Ideal S1024x128 .f32) :
    k0_pay23 (F := Ideal) b c (k0_pay21 w x) (k0_pay22 a w x) = k0_pay10 (F := Ideal) a b c w x := rfl

/-- The same head as another stretch of the program spells it. -/
theorem pay26_eq (a b c : FVec Ideal S1024x128 .f32) (w : FVec Ideal S1x128 .f32) (x : FVec Ideal S1024x128 .f32) :
    k0_pay26 (F := Ideal) a b c w x (k0_pay25 x) = k0_pay10 (F := Ideal) a b c w x := rfl

/-- The same head as another stretch of the program spells it. -/
theorem pay29_eq (a b c : FVec Ideal S1024x128 .f32) (w : FVec Ideal S1x128 .f32) (x : FVec Ideal S1024x128 .f32) :
    k0_pay29 (F := Ideal) a b c w x (k0_pay28 x) (Scalar.ofBits .f32 0x358637BD#32) = k0_pay10 (F := Ideal) a b c w x := rfl

/-- The same head as another stretch of the program spells it. -/
theorem pay32_eq (a b c : FVec Ideal S1024x128 .f32) (w : FVec Ideal S1x128 .f32) (x : FVec Ideal S1024x128 .f32) :
    k0_pay32 (F := Ideal) a b c w x (k0_pay31 x) = k0_pay10 (F := Ideal) a b c w x := rfl

variable (m : (ℓ : Loc nD τ sig) → Buf (Elt Ideal) ℓ)

/-- Which block each window reads or writes at grid point `t`: the `t`-th band of rows of three column blocks, the tables' half, the weights whole. -/
theorem idx_val : ∀ t : Fin cfg0.N, win0_0.index t = ![t.val, 7]
    ∧ win0_1.index t = ![t.val, 8]
    ∧ win0_2.index t = ![t.val, 9]
    ∧ win0_3.index t = ![t.val % 2, 0]
    ∧ win0_4.index t = ![t.val % 2, 0]
    ∧ win0_5.index t = ![t.val % 2, 0]
    ∧ win0_6.index t = ![0, 0]
    ∧ win0_7.index t = ![0, 0]
    ∧ win0_8.index t = ![t.val, 0]
    ∧ win0_9.index t = ![t.val, 0]
    ∧ win0_10.index t = ![0, t.val] :=
  (by decide +kernel : ∀ t : Fin grid0.N, _)

/-- The angles, read at an entry. -/
theorem angles_apply (s : Fin 2048) (d : Fin 128) : angles (ix2 s d) = if h : d.val < 32 then Cert.Reference7Ideal.Value.byRow (ix2 s ⟨d.val, h⟩)
    else if h : d.val - 32 < 32 then Cert.Reference7Ideal.Value.byRow (ix2 s ⟨d.val - 32, h⟩)
    else if h : d.val - 32 - 32 < 32 then Cert.Reference7Ideal.Value.byCol (ix2 s ⟨d.val - 32 - 32, h⟩)
    else Cert.Reference7Ideal.Value.byCol (ix2 s ⟨d.val - 32 - 32 - 32, by omega⟩) := by
  pointwise [angles]

/-- The choice by the lane's quarter. -/
theorem sel (d : Fin 128) (A B : EReal) :
    Scalar.select (IntOp.cmpi CmpIPredicate.eq (IntOp.andi (BitVec.ofNat 32 d.val) 32#32) 0#32) A B = if d.val / 32 % 2 = 0 then A else B := by
  have h : ∀ d : Fin 128, IntOp.cmpi CmpIPredicate.eq (IntOp.andi (BitVec.ofNat 32 d.val) 32#32) 0#32 = if d.val / 32 % 2 = 0 then 1#1 else 0#1 := by decide
  rw [h d]
  by_cases e : d.val / 32 % 2 = 0
  · rw [if_pos e, if_pos e]; rfl
  · rw [if_neg e, if_neg e]; rfl

/-- The cosine table the call reads. -/
theorem V_cos (c : Dev nD) (s : Fin 2048) (d : Fin 128) : V m c main_v29 (ix2 s d) = Ideal.cos (angles (ix2 s d)) := by
  unfold V
  after_reads_at
  refine congrArg Ideal.cos ?_
  rw [angles_apply]
  by_cases h0 : d.val < 32
  · simp only [dif_pos h0]; after_reads_at; pointwise [Cert.Reference7Ideal.Value.byRow, Cert.Reference7Ideal.Value.byCol, Cert.Reference7Ideal.Value.turns, Cert.Reference7Ideal.Value.freq]
  · by_cases h1 : d.val - 32 < 32
    · simp only [dif_neg h0, dif_pos h1]; after_reads_at; pointwise [Cert.Reference7Ideal.Value.byRow, Cert.Reference7Ideal.Value.byCol, Cert.Reference7Ideal.Value.turns, Cert.Reference7Ideal.Value.freq]
    · by_cases h2 : d.val - 32 - 32 < 32
      · simp only [dif_neg h0, dif_neg h1, dif_pos h2]; after_reads_at; pointwise [Cert.Reference7Ideal.Value.byRow, Cert.Reference7Ideal.Value.byCol, Cert.Reference7Ideal.Value.turns, Cert.Reference7Ideal.Value.freq]
      · simp only [dif_neg h0, dif_neg h1, dif_neg h2]; after_reads_at; pointwise [Cert.Reference7Ideal.Value.byRow, Cert.Reference7Ideal.Value.byCol, Cert.Reference7Ideal.Value.turns, Cert.Reference7Ideal.Value.freq]

/-- The first sine table the call reads: minus the sine on the first of each pair of quarters, nothing on the other. -/
theorem V_sa (c : Dev nD) (s : Fin 2048) (d : Fin 128) : V m c main_v37 (ix2 s d) =
     if d.val / 32 % 2 = 0 then -Ideal.sin (angles (ix2 s d)) else 0 := by
  unfold V
  after_reads_at
  rw [sel]
  refine congrArg₂ (fun e z : EReal => if d.val / 32 % 2 = 0 then -Ideal.sin e else z) ?_ ?_
  · skip
    rw [angles_apply]
    by_cases h0 : d.val < 32
    · simp only [dif_pos h0]; after_reads_at; pointwise [Cert.Reference7Ideal.Value.byRow, Cert.Reference7Ideal.Value.byCol, Cert.Reference7Ideal.Value.turns, Cert.Reference7Ideal.Value.freq]
    · by_cases h1 : d.val - 32 < 32
      · simp only [dif_neg h0, dif_pos h1]; after_reads_at; pointwise [Cert.Reference7Ideal.Value.byRow, Cert.Reference7Ideal.Value.byCol, Cert.Reference7Ideal.Value.turns, Cert.Reference7Ideal.Value.freq]
      · by_cases h2 : d.val - 32 - 32 < 32
        · simp only [dif_neg h0, dif_neg h1, dif_pos h2]; after_reads_at; pointwise [Cert.Reference7Ideal.Value.byRow, Cert.Reference7Ideal.Value.byCol, Cert.Reference7Ideal.Value.turns, Cert.Reference7Ideal.Value.freq]
        · simp only [dif_neg h0, dif_neg h1, dif_neg h2]; after_reads_at; pointwise [Cert.Reference7Ideal.Value.byRow, Cert.Reference7Ideal.Value.byCol, Cert.Reference7Ideal.Value.turns, Cert.Reference7Ideal.Value.freq]
  · simp only [id]; pointwise []

/-- The second sine table the call reads: nothing on the first of each pair of quarters, the sine on the other. -/
theorem V_sb (c : Dev nD) (s : Fin 2048) (d : Fin 128) : V m c main_v38 (ix2 s d) =
     if d.val / 32 % 2 = 0 then 0 else Ideal.sin (angles (ix2 s d)) := by
  unfold V
  after_reads_at
  rw [sel]
  refine congrArg₂ (fun e z : EReal => if d.val / 32 % 2 = 0 then z else Ideal.sin e) ?_ ?_
  · skip
    rw [angles_apply]
    by_cases h0 : d.val < 32
    · simp only [dif_pos h0]; after_reads_at; pointwise [Cert.Reference7Ideal.Value.byRow, Cert.Reference7Ideal.Value.byCol, Cert.Reference7Ideal.Value.turns, Cert.Reference7Ideal.Value.freq]
    · by_cases h1 : d.val - 32 < 32
      · simp only [dif_neg h0, dif_pos h1]; after_reads_at; pointwise [Cert.Reference7Ideal.Value.byRow, Cert.Reference7Ideal.Value.byCol, Cert.Reference7Ideal.Value.turns, Cert.Reference7Ideal.Value.freq]
      · by_cases h2 : d.val - 32 - 32 < 32
        · simp only [dif_neg h0, dif_neg h1, dif_pos h2]; after_reads_at; pointwise [Cert.Reference7Ideal.Value.byRow, Cert.Reference7Ideal.Value.byCol, Cert.Reference7Ideal.Value.turns, Cert.Reference7Ideal.Value.freq]
        · simp only [dif_neg h0, dif_neg h1, dif_neg h2]; after_reads_at; pointwise [Cert.Reference7Ideal.Value.byRow, Cert.Reference7Ideal.Value.byCol, Cert.Reference7Ideal.Value.turns, Cert.Reference7Ideal.Value.freq]
  · simp only [id]; pointwise []

/-- The query weight's row. -/
theorem V_qw (c : Dev nD) (k : Fin 128) : V m c main_v43 (ix2 0 k) = m ((c : Thread nD τ).loc main_arg1) (ix2 0 k) := by
  unfold V
  after_reads_at

/-- The key weight's row. -/
theorem V_kw (c : Dev nD) (k : Fin 128) : V m c main_v44 (ix2 0 k) = m ((c : Thread nD τ).loc main_arg2) (ix2 0 k) := by
  unfold V
  after_reads_at

/-- The position, in its sequence, of a row of the block at grid point `t`. -/
abbrev pos (t : Fin cfg0.N) (r : Fin 1024) : Fin 2048 := ⟨t.val % 2 * 1024 + r.val, by omega⟩

/-- The cosine block. -/
theorem cos_at (c : Dev nD) (t : Fin cfg0.N) (r : Fin 1024) (d : Fin 128) : iblk m c 3 t (ix2 r d) = Ideal.cos (angles (ix2 (pos t r) d)) := by
  rw [← V_cos m c]
  blk_point [iblk, idx_val t]

/-- The first sine block. -/
theorem sa_at (c : Dev nD) (t : Fin cfg0.N) (r : Fin 1024) (d : Fin 128) : iblk m c 4 t (ix2 r d) =
    if d.val / 32 % 2 = 0 then -Ideal.sin (angles (ix2 (pos t r) d)) else 0 := by
  rw [← V_sa m c]
  blk_point [iblk, idx_val t]

/-- The second sine block. -/
theorem sb_at (c : Dev nD) (t : Fin cfg0.N) (r : Fin 1024) (d : Fin 128) : iblk m c 5 t (ix2 r d) =
    if d.val / 32 % 2 = 0 then 0 else Ideal.sin (angles (ix2 (pos t r) d)) := by
  rw [← V_sb m c]
  blk_point [iblk, idx_val t]

/-- The query weight's block. -/
theorem qw_at (c : Dev nD) (t : Fin cfg0.N) (k : Fin 128) : iblk m c 6 t (ix2 0 k) = m ((c : Thread nD τ).loc main_arg1) (ix2 0 k) := by
  rw [← V_qw m c]
  blk_point [iblk, idx_val t]

/-- The key weight's block. -/
theorem kw_at (c : Dev nD) (t : Fin cfg0.N) (k : Fin 128) : iblk m c 7 t (ix2 0 k) = m ((c : Thread nD τ).loc main_arg2) (ix2 0 k) := by
  rw [← V_kw m c]
  blk_point [iblk, idx_val t]

/-- A row of the block at grid point `t`, in the whole array. -/
abbrev row (t : Fin cfg0.N) (r : Fin 1024) : Fin 16384 := ⟨t.val * 1024 + r.val, by have h := t.isLt; change t.val < 16 at h; omega⟩

/-- One head stored at grid point `t`, of any slice of the block that holds that head's columns, is the turned and normed row. -/
theorem head_turned (c : Dev nD) (t : Fin cfg0.N) (w : FVec Ideal S1x128 .f32) (X : FVec Ideal S1024x128 .f32) (r : Fin 1024) (d : Fin 128) :
    k0_pay10 (F := Ideal) (iblk m c 3 t) (iblk m c 4 t) (iblk m c 5 t) w X (ix2 r d)
      = spun (nrm (fun k => X (ix2 r k)) (fun k => w (ix2 0 k))) (fun k => angles (ix2 (pos t r) k)) d :=
  (head_apply (iblk m c 3 t) (iblk m c 4 t) (iblk m c 5 t) w X r d).trans
    (turn _ (fun k => angles (ix2 (pos t r) k)) d _ _ _ (cos_at m c t r d) (sa_at m c t r d) (sb_at m c t r d))

/-- The same as an entry of the queries. -/
theorem query_at (c : Dev nD) (t : Fin cfg0.N) (g : Fin 16) (u : FVec Ideal S16384x10240 .f32) (w : FVec Ideal S2x128 .f32)
    (hw : m ((c : Thread nD τ).loc main_arg1) = w) (X : FVec Ideal S1024x128 .f32)
    (hX : ∀ (r : Fin 1024) (k : Fin 128), X (ix2 r k) = u (ix2 (row t r) ⟨7168 + (g.val * 128 + k.val), by omega⟩)) (x : S1024x128.Idx) (j : S16384x2048.Idx)
    (h0 : (j 0 : ℕ) = t.val * 1024 + (x 0 : ℕ)) (h1 : (j 1 : ℕ) = g.val * 128 + (x 1 : ℕ)) :
    k0_pay10 (F := Ideal) (iblk m c 3 t) (iblk m c 4 t) (iblk m c 5 t) (iblk m c 6 t) X x = Cert.Reference7Ideal.Value.qout u w j := by
  obtain ⟨r, d, rfl⟩ : ∃ (r : Fin 1024) (d : Fin 128), x = ix2 r d := ⟨x 0, x 1, eq_ix2 x⟩
  have hg := g.isLt
  have hj : j = ix2 (row t r) (⟨g.val * 128 + d.val, by omega⟩ : Fin 2048) := by
    rw [eq_ix2 j]
    exact congrArg₂ ix2 (Fin.ext h0) (Fin.ext h1)
  rw [hj, Cert.Reference7Ideal.Value.qout_apply, head_turned]
  have e1 : (g.val * 128 + d.val) / 128 = g.val := by omega
  have e2 : ∀ p, (⟨(g.val * 128 + d.val) % 128, p⟩ : Fin 128) = d := fun p => Fin.ext (by show (g.val * 128 + d.val) % 128 = d.val; omega)
  have e3 : ∀ p, (⟨(t.val * 1024 + r.val) % 2048, p⟩ : Fin 2048) = pos t r := fun p => Fin.ext (by show (t.val * 1024 + r.val) % 2048 = t.val % 2 * 1024 + r.val; omega)
  simp only [hX, qw_at, hw, e1, e2, e3]

/-- The same as an entry of the keys. -/
theorem key_at (c : Dev nD) (t : Fin cfg0.N) (g : Fin 4) (u : FVec Ideal S16384x10240 .f32) (w : FVec Ideal S2x128 .f32)
    (hw : m ((c : Thread nD τ).loc main_arg2) = w) (X : FVec Ideal S1024x128 .f32)
    (hX : ∀ (r : Fin 1024) (k : Fin 128), X (ix2 r k) = u (ix2 (row t r) ⟨9216 + (g.val * 128 + k.val), by omega⟩)) (x : S1024x128.Idx) (j : S16384x512.Idx)
    (h0 : (j 0 : ℕ) = t.val * 1024 + (x 0 : ℕ)) (h1 : (j 1 : ℕ) = g.val * 128 + (x 1 : ℕ)) :
    k0_pay10 (F := Ideal) (iblk m c 3 t) (iblk m c 4 t) (iblk m c 5 t) (iblk m c 7 t) X x = Cert.Reference7Ideal.Value.kout u w j := by
  obtain ⟨r, d, rfl⟩ : ∃ (r : Fin 1024) (d : Fin 128), x = ix2 r d := ⟨x 0, x 1, eq_ix2 x⟩
  have hg := g.isLt
  have hj : j = ix2 (row t r) (⟨g.val * 128 + d.val, by omega⟩ : Fin 512) := by
    rw [eq_ix2 j]
    exact congrArg₂ ix2 (Fin.ext h0) (Fin.ext h1)
  rw [hj, Cert.Reference7Ideal.Value.kout_apply, head_turned]
  have e1 : (g.val * 128 + d.val) / 128 = g.val := by omega
  have e2 : ∀ p, (⟨(g.val * 128 + d.val) % 128, p⟩ : Fin 128) = d := fun p => Fin.ext (by show (g.val * 128 + d.val) % 128 = d.val; omega)
  have e3 : ∀ p, (⟨(t.val * 1024 + r.val) % 2048, p⟩ : Fin 2048) = pos t r := fun p => Fin.ext (by show (t.val * 1024 + r.val) % 2048 = t.val % 2 * 1024 + r.val; omega)
  simp only [hX, kw_at, hw, e1, e2, e3]

/-- A load of the cosine block is the block. -/
theorem same2 (x : FVec Ideal S1024x128 .f32) : k0_pay2 (F := Ideal) x = x := by
  funext i
  obtain ⟨r, d, rfl⟩ : ∃ r d, i = ix2 r d := ⟨i 0, i 1, eq_ix2 i⟩
  pointwise [k0_pay2]

/-- A load of the first sine block is the block. -/
theorem same3 (x : FVec Ideal S1024x128 .f32) : k0_pay3 (F := Ideal) x = x := by
  funext i
  obtain ⟨r, d, rfl⟩ : ∃ r d, i = ix2 r d := ⟨i 0, i 1, eq_ix2 i⟩
  pointwise [k0_pay3]

/-- A load of the second sine block is the block. -/
theorem same4 (x : FVec Ideal S1024x128 .f32) : k0_pay4 (F := Ideal) x = x := by
  funext i
  obtain ⟨r, d, rfl⟩ : ∃ r d, i = ix2 r d := ⟨i 0, i 1, eq_ix2 i⟩
  pointwise [k0_pay4]

/-- A load of the query weight is the block. -/
theorem same5 (x : FVec Ideal S1x128 .f32) : k0_pay5 (F := Ideal) x = x := by
  funext i
  obtain ⟨r, d, rfl⟩ : ∃ r d, i = ix2 r d := ⟨i 0, i 1, eq_ix2 i⟩
  pointwise [k0_pay5]

/-- A load of the key weight is the block. -/
theorem same6 (x : FVec Ideal S1x128 .f32) : k0_pay6 (F := Ideal) x = x := by
  funext i
  obtain ⟨r, d, rfl⟩ : ∃ r d, i = ix2 r d := ⟨i 0, i 1, eq_ix2 i⟩
  pointwise [k0_pay6]

/-- The first column block. -/
theorem col0_at (c : Dev nD) (t : Fin cfg0.N) (r : Fin 1024) (k : Fin 1024) :
    iblk m c 0 t (ix2 r k) = m ((c : Thread nD τ).loc main_arg0) (ix2 (row t r) ⟨7168 + k.val, by omega⟩) := by
  rw [← V_main_arg0 m c]
  blk_point [iblk, idx_val t]

/-- The second column block. -/
theorem col1_at (c : Dev nD) (t : Fin cfg0.N) (r : Fin 1024) (k : Fin 1024) :
    iblk m c 1 t (ix2 r k) = m ((c : Thread nD τ).loc main_arg0) (ix2 (row t r) ⟨8192 + k.val, by omega⟩) := by
  rw [← V_main_arg0 m c]
  blk_point [iblk, idx_val t]

/-- The third column block. -/
theorem col2_at (c : Dev nD) (t : Fin cfg0.N) (r : Fin 1024) (k : Fin 1024) :
    iblk m c 2 t (ix2 r k) = m ((c : Thread nD τ).loc main_arg0) (ix2 (row t r) ⟨9216 + k.val, by omega⟩) := by
  rw [← V_main_arg0 m c]
  blk_point [iblk, idx_val t]

end Cert.Kernel7Ideal.Value

end

end
-- ==== Proof.AttnPrepOut.lean ====
module

public import proofs.«01_k».proof.Proof.AttnPrep

/-! The blocks the rotation call stores, and its three results. -/

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Value
open Cert.Kernel7Ideal Cert.Kernel7Ideal.Gen

variable (m : (ℓ : Loc nD τ sig) → Buf (Elt Ideal) ℓ)

/-- A load of the head at column 0, read at an entry. -/
theorem ld2 (x : Vec Ideal S1024x1024 .f32) (r : Fin 1024) (k : Fin 128) :
    View.ld x r0_2 (ix2 r k) = x (ix2 r ⟨0 + k.val, by omega⟩) := by
  pointwise []

/-- A load of the head at column 128, read at an entry. -/
theorem ld5 (x : Vec Ideal S1024x1024 .f32) (r : Fin 1024) (k : Fin 128) :
    View.ld x r0_5 (ix2 r k) = x (ix2 r ⟨128 + k.val, by omega⟩) := by
  pointwise []

/-- A load of the head at column 256, read at an entry. -/
theorem ld8 (x : Vec Ideal S1024x1024 .f32) (r : Fin 1024) (k : Fin 128) :
    View.ld x r0_8 (ix2 r k) = x (ix2 r ⟨256 + k.val, by omega⟩) := by
  pointwise []

/-- A load of the head at column 384, read at an entry. -/
theorem ld11 (x : Vec Ideal S1024x1024 .f32) (r : Fin 1024) (k : Fin 128) :
    View.ld x r0_11 (ix2 r k) = x (ix2 r ⟨384 + k.val, by omega⟩) := by
  pointwise []

/-- A load of the head at column 512, read at an entry. -/
theorem ld14 (x : Vec Ideal S1024x1024 .f32) (r : Fin 1024) (k : Fin 128) :
    View.ld x r0_14 (ix2 r k) = x (ix2 r ⟨512 + k.val, by omega⟩) := by
  pointwise []

/-- A load of the head at column 640, read at an entry. -/
theorem ld17 (x : Vec Ideal S1024x1024 .f32) (r : Fin 1024) (k : Fin 128) :
    View.ld x r0_17 (ix2 r k) = x (ix2 r ⟨640 + k.val, by omega⟩) := by
  pointwise []

/-- A load of the head at column 768, read at an entry. -/
theorem ld20 (x : Vec Ideal S1024x1024 .f32) (r : Fin 1024) (k : Fin 128) :
    View.ld x r0_20 (ix2 r k) = x (ix2 r ⟨768 + k.val, by omega⟩) := by
  pointwise []

/-- A load of the head at column 896, read at an entry. -/
theorem ld23 (x : Vec Ideal S1024x1024 .f32) (r : Fin 1024) (k : Fin 128) :
    View.ld x r0_23 (ix2 r k) = x (ix2 r ⟨896 + k.val, by omega⟩) := by
  pointwise []

/-- A load of the value columns, read at an entry. -/
theorem ld30 (x : Vec Ideal S1024x1024 .f32) (r : Fin 1024) (k : Fin 512) :
    View.ld x r0_30 (ix2 r k) = x (ix2 r ⟨512 + k.val, by omega⟩) := by
  pointwise []

set_option maxHeartbeats 1000000 in
/-- The keys' block stored at grid point `t`. -/
theorem keys (c : Dev nD) (t : Fin cfg0.N) (y : S1024x512.Idx) :
    out0_9 (iblk m c 0 t) (iblk m c 1 t) (iblk m c 2 t) (iblk m c 3 t) (iblk m c 4 t) (iblk m c 5 t) (iblk m c 6 t) (iblk m c 7 t) y
      = Cert.Reference7Ideal.Value.kout (m ((c : Thread nD τ).loc main_arg0)) (m ((c : Thread nD τ).loc main_arg2)) (((cfg0.win 9).blk t).view.emb y) := by
  unfold_out out0_9
  frame_out
  simp only [pay32_eq, pay33_eq, pay34_eq, pay35_eq, same2, same3, same4, same6]
  canon_tiles x h
  case piece0 =>
    refine key_at m c t 3 (m ((c : Thread nD τ).loc main_arg0)) (m ((c : Thread nD τ).loc main_arg2)) rfl _ (fun r k =>
      (ld11 _ r k).trans ((col2_at m c t r _).trans (congrArg (fun e => m ((c : Thread nD τ).loc main_arg0) (ix2 (row t r) e))
        (Fin.ext (by show 9216 + (384 + k.val) = 9216 + (3 * 128 + k.val); omega))))) x _ ?_ ?_ <;>
    · blk_simp [idx_val t] <;> omega
  case piece1 =>
    refine key_at m c t 2 (m ((c : Thread nD τ).loc main_arg0)) (m ((c : Thread nD τ).loc main_arg2)) rfl _ (fun r k =>
      (ld8 _ r k).trans ((col2_at m c t r _).trans (congrArg (fun e => m ((c : Thread nD τ).loc main_arg0) (ix2 (row t r) e))
        (Fin.ext (by show 9216 + (256 + k.val) = 9216 + (2 * 128 + k.val); omega))))) x _ ?_ ?_ <;>
    · blk_simp [idx_val t] <;> omega
  case piece2 =>
    refine key_at m c t 1 (m ((c : Thread nD τ).loc main_arg0)) (m ((c : Thread nD τ).loc main_arg2)) rfl _ (fun r k =>
      (ld5 _ r k).trans ((col2_at m c t r _).trans (congrArg (fun e => m ((c : Thread nD τ).loc main_arg0) (ix2 (row t r) e))
        (Fin.ext (by show 9216 + (128 + k.val) = 9216 + (1 * 128 + k.val); omega))))) x _ ?_ ?_ <;>
    · blk_simp [idx_val t] <;> omega
  case piece3 =>
    refine key_at m c t 0 (m ((c : Thread nD τ).loc main_arg0)) (m ((c : Thread nD τ).loc main_arg2)) rfl _ (fun r k =>
      (ld2 _ r k).trans ((col2_at m c t r _).trans (congrArg (fun e => m ((c : Thread nD τ).loc main_arg0) (ix2 (row t r) e))
        (Fin.ext (by show 9216 + (0 + k.val) = 9216 + (0 * 128 + k.val); omega))))) x _ ?_ ?_ <;>
    · blk_simp [idx_val t] <;> omega

set_option maxHeartbeats 2000000 in
/-- The queries' block stored at grid point `t`. -/
theorem queries (c : Dev nD) (t : Fin cfg0.N) (y : S1024x2048.Idx) :
    out0_8 (iblk m c 0 t) (iblk m c 1 t) (iblk m c 2 t) (iblk m c 3 t) (iblk m c 4 t) (iblk m c 5 t) (iblk m c 6 t) (iblk m c 7 t) y
      = Cert.Reference7Ideal.Value.qout (m ((c : Thread nD τ).loc main_arg0)) (m ((c : Thread nD τ).loc main_arg1)) (((cfg0.win 8).blk t).view.emb y) := by
  unfold_out out0_8
  frame_out
  simp only [pay7_eq, pay9_eq, pay11_eq, pay12_eq, pay13_eq, pay15_eq, pay16_eq, pay19_eq, pay20_eq, pay23_eq, pay24_eq, pay26_eq,
    pay27_eq, pay29_eq, pay30_eq, same2, same3, same4, same5]
  canon_tiles x h
  case piece0 =>
    refine query_at m c t 15 (m ((c : Thread nD τ).loc main_arg0)) (m ((c : Thread nD τ).loc main_arg1)) rfl _ (fun r k =>
      (ld23 _ r k).trans ((col1_at m c t r _).trans (congrArg (fun e => m ((c : Thread nD τ).loc main_arg0) (ix2 (row t r) e))
        (Fin.ext (by show 8192 + (896 + k.val) = 7168 + (15 * 128 + k.val); omega))))) x _ ?_ ?_ <;>
    · blk_simp [idx_val t] <;> omega
  case piece1 =>
    refine query_at m c t 7 (m ((c : Thread nD τ).loc main_arg0)) (m ((c : Thread nD τ).loc main_arg1)) rfl _ (fun r k =>
      (ld23 _ r k).trans ((col0_at m c t r _).trans (congrArg (fun e => m ((c : Thread nD τ).loc main_arg0) (ix2 (row t r) e))
        (Fin.ext (by show 7168 + (896 + k.val) = 7168 + (7 * 128 + k.val); omega))))) x _ ?_ ?_ <;>
    · blk_simp [idx_val t] <;> omega
  case piece2 =>
    refine query_at m c t 14 (m ((c : Thread nD τ).loc main_arg0)) (m ((c : Thread nD τ).loc main_arg1)) rfl _ (fun r k =>
      (ld20 _ r k).trans ((col1_at m c t r _).trans (congrArg (fun e => m ((c : Thread nD τ).loc main_arg0) (ix2 (row t r) e))
        (Fin.ext (by show 8192 + (768 + k.val) = 7168 + (14 * 128 + k.val); omega))))) x _ ?_ ?_ <;>
    · blk_simp [idx_val t] <;> omega
  case piece3 =>
    refine query_at m c t 6 (m ((c : Thread nD τ).loc main_arg0)) (m ((c : Thread nD τ).loc main_arg1)) rfl _ (fun r k =>
      (ld20 _ r k).trans ((col0_at m c t r _).trans (congrArg (fun e => m ((c : Thread nD τ).loc main_arg0) (ix2 (row t r) e))
        (Fin.ext (by show 7168 + (768 + k.val) = 7168 + (6 * 128 + k.val); omega))))) x _ ?_ ?_ <;>
    · blk_simp [idx_val t] <;> omega
  case piece4 =>
    refine query_at m c t 13 (m ((c : Thread nD τ).loc main_arg0)) (m ((c : Thread nD τ).loc main_arg1)) rfl _ (fun r k =>
      (ld17 _ r k).trans ((col1_at m c t r _).trans (congrArg (fun e => m ((c : Thread nD τ).loc main_arg0) (ix2 (row t r) e))
        (Fin.ext (by show 8192 + (640 + k.val) = 7168 + (13 * 128 + k.val); omega))))) x _ ?_ ?_ <;>
    · blk_simp [idx_val t] <;> omega
  case piece5 =>
    refine query_at m c t 5 (m ((c : Thread nD τ).loc main_arg0)) (m ((c : Thread nD τ).loc main_arg1)) rfl _ (fun r k =>
      (ld17 _ r k).trans ((col0_at m c t r _).trans (congrArg (fun e => m ((c : Thread nD τ).loc main_arg0) (ix2 (row t r) e))
        (Fin.ext (by show 7168 + (640 + k.val) = 7168 + (5 * 128 + k.val); omega))))) x _ ?_ ?_ <;>
    · blk_simp [idx_val t] <;> omega
  case piece6 =>
    refine query_at m c t 12 (m ((c : Thread nD τ).loc main_arg0)) (m ((c : Thread nD τ).loc main_arg1)) rfl _ (fun r k =>
      (ld14 _ r k).trans ((col1_at m c t r _).trans (congrArg (fun e => m ((c : Thread nD τ).loc main_arg0) (ix2 (row t r) e))
        (Fin.ext (by show 8192 + (512 + k.val) = 7168 + (12 * 128 + k.val); omega))))) x _ ?_ ?_ <;>
    · blk_simp [idx_val t] <;> omega
  case piece7 =>
    refine query_at m c t 4 (m ((c : Thread nD τ).loc main_arg0)) (m ((c : Thread nD τ).loc main_arg1)) rfl _ (fun r k =>
      (ld14 _ r k).trans ((col0_at m c t r _).trans (congrArg (fun e => m ((c : Thread nD τ).loc main_arg0) (ix2 (row t r) e))
        (Fin.ext (by show 7168 + (512 + k.val) = 7168 + (4 * 128 + k.val); omega))))) x _ ?_ ?_ <;>
    · blk_simp [idx_val t] <;> omega
  case piece8 =>
    refine query_at m c t 11 (m ((c : Thread nD τ).loc main_arg0)) (m ((c : Thread nD τ).loc main_arg1)) rfl _ (fun r k =>
      (ld11 _ r k).trans ((col1_at m c t r _).trans (congrArg (fun e => m ((c : Thread nD τ).loc main_arg0) (ix2 (row t r) e))
        (Fin.ext (by show 8192 + (384 + k.val) = 7168 + (11 * 128 + k.val); omega))))) x _ ?_ ?_ <;>
    · blk_simp [idx_val t] <;> omega
  case piece9 =>
    refine query_at m c t 3 (m ((c : Thread nD τ).loc main_arg0)) (m ((c : Thread nD τ).loc main_arg1)) rfl _ (fun r k =>
      (ld11 _ r k).trans ((col0_at m c t r _).trans (congrArg (fun e => m ((c : Thread nD τ).loc main_arg0) (ix2 (row t r) e))
        (Fin.ext (by show 7168 + (384 + k.val) = 7168 + (3 * 128 + k.val); omega))))) x _ ?_ ?_ <;>
    · blk_simp [idx_val t] <;> omega
  case piece10 =>
    refine query_at m c t 10 (m ((c : Thread nD τ).loc main_arg0)) (m ((c : Thread nD τ).loc main_arg1)) rfl _ (fun r k =>
      (ld8 _ r k).trans ((col1_at m c t r _).trans (congrArg (fun e => m ((c : Thread nD τ).loc main_arg0) (ix2 (row t r) e))
        (Fin.ext (by show 8192 + (256 + k.val) = 7168 + (10 * 128 + k.val); omega))))) x _ ?_ ?_ <;>
    · blk_simp [idx_val t] <;> omega
  case piece11 =>
    refine query_at m c t 2 (m ((c : Thread nD τ).loc main_arg0)) (m ((c : Thread nD τ).loc main_arg1)) rfl _ (fun r k =>
      (ld8 _ r k).trans ((col0_at m c t r _).trans (congrArg (fun e => m ((c : Thread nD τ).loc main_arg0) (ix2 (row t r) e))
        (Fin.ext (by show 7168 + (256 + k.val) = 7168 + (2 * 128 + k.val); omega))))) x _ ?_ ?_ <;>
    · blk_simp [idx_val t] <;> omega
  case piece12 =>
    refine query_at m c t 9 (m ((c : Thread nD τ).loc main_arg0)) (m ((c : Thread nD τ).loc main_arg1)) rfl _ (fun r k =>
      (ld5 _ r k).trans ((col1_at m c t r _).trans (congrArg (fun e => m ((c : Thread nD τ).loc main_arg0) (ix2 (row t r) e))
        (Fin.ext (by show 8192 + (128 + k.val) = 7168 + (9 * 128 + k.val); omega))))) x _ ?_ ?_ <;>
    · blk_simp [idx_val t] <;> omega
  case piece13 =>
    refine query_at m c t 1 (m ((c : Thread nD τ).loc main_arg0)) (m ((c : Thread nD τ).loc main_arg1)) rfl _ (fun r k =>
      (ld5 _ r k).trans ((col0_at m c t r _).trans (congrArg (fun e => m ((c : Thread nD τ).loc main_arg0) (ix2 (row t r) e))
        (Fin.ext (by show 7168 + (128 + k.val) = 7168 + (1 * 128 + k.val); omega))))) x _ ?_ ?_ <;>
    · blk_simp [idx_val t] <;> omega
  case piece14 =>
    refine query_at m c t 8 (m ((c : Thread nD τ).loc main_arg0)) (m ((c : Thread nD τ).loc main_arg1)) rfl _ (fun r k =>
      (ld2 _ r k).trans ((col1_at m c t r _).trans (congrArg (fun e => m ((c : Thread nD τ).loc main_arg0) (ix2 (row t r) e))
        (Fin.ext (by show 8192 + (0 + k.val) = 7168 + (8 * 128 + k.val); omega))))) x _ ?_ ?_ <;>
    · blk_simp [idx_val t] <;> omega
  case piece15 =>
    refine query_at m c t 0 (m ((c : Thread nD τ).loc main_arg0)) (m ((c : Thread nD τ).loc main_arg1)) rfl _ (fun r k =>
      (ld2 _ r k).trans ((col0_at m c t r _).trans (congrArg (fun e => m ((c : Thread nD τ).loc main_arg0) (ix2 (row t r) e))
        (Fin.ext (by show 7168 + (0 + k.val) = 7168 + (0 * 128 + k.val); omega))))) x _ ?_ ?_ <;>
    · blk_simp [idx_val t] <;> omega

/-- The block of values, turned over. -/
theorem turned_over (x : Vec Ideal S1024x512 .f32) (e : Fin 512) (r : Fin 1024) : k0_pay1 (F := Ideal) x (ix2 e r) = x (ix2 r e) := by
  pointwise [k0_pay1]

/-- The values' block stored at grid point `t`. -/
theorem values (c : Dev nD) (t : Fin cfg0.N) (y : S512x1024.Idx) :
    k0_pay1 (View.ld (iblk m c 2 t) r0_30) y
      = Cert.Reference7Ideal.Value.vout (m ((c : Thread nD τ).loc main_arg0)) (((cfg0.win 10).blk t).view.emb y) := by
  obtain ⟨e, r, rfl⟩ : ∃ (e : Fin 512) (r : Fin 1024), y = ix2 e r := ⟨y 0, y 1, eq_ix2 y⟩
  have hj : ((cfg0.win 10).blk t).view.emb (ix2 e r) = ix2 e (row t r) := by
    refine (eq_ix2 _).trans (congrArg₂ ix2 (Fin.ext ?_) (Fin.ext ?_)) <;>
    · blk_simp [idx_val t] <;> omega
  rw [hj, Cert.Reference7Ideal.Value.vout_apply]
  exact (turned_over _ e r).trans ((ld30 _ r e).trans ((col2_at m c t r _).trans (congrArg (fun e => m ((c : Thread nD τ).loc main_arg0) (ix2 (row t r) e))
    (Fin.ext (by show 9216 + (512 + e.val) = 9728 + e.val; omega)))))

/-- After the run the first result array is the rotated queries. -/
theorem qfinal (c : Dev nD) : (dats m 0 c).arrAt 8 (cfgs 0).N
    = Cert.Reference7Ideal.Value.qout (m ((c : Thread nD τ).loc main_arg0)) (m ((c : Thread nD τ).loc main_arg1)) := by
  refine (dats m 0 c).arrAt_eq_of_covers 8 _ (by decide +kernel) fun t hf y => ?_
  blk_simp; rw [after0_8]
  exact queries m c t y

/-- After the run the second result array is the rotated keys. -/
theorem kfinal (c : Dev nD) : (dats m 0 c).arrAt 9 (cfgs 0).N
    = Cert.Reference7Ideal.Value.kout (m ((c : Thread nD τ).loc main_arg0)) (m ((c : Thread nD τ).loc main_arg2)) := by
  refine (dats m 0 c).arrAt_eq_of_covers 9 _ (by decide +kernel) fun t hf y => ?_
  blk_simp; rw [after0_9]
  exact keys m c t y

/-- After the run the third result array is the values turned over. -/
theorem vfinal (c : Dev nD) : (dats m 0 c).arrAt 10 (cfgs 0).N
    = Cert.Reference7Ideal.Value.vout (m ((c : Thread nD τ).loc main_arg0)) := by
  refine (dats m 0 c).arrAt_eq_of_covers 10 _ (by decide +kernel) fun t hf y => ?_
  blk_simp; rw [after0_10]; frame_out
  exact values m c t y

end Cert.Kernel7Ideal.Value

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Pre_finite
public import proofs.«01_k».proof.Proof.Attention
public import proofs.«01_k».proof.Proof.FfnUp
public import proofs.«01_k».proof.Proof.FfnDown
public import proofs.«01_k».proof.Proof.InProj
public import proofs.«01_k».proof.Proof.OutProj
public import proofs.«01_k».proof.Proof.LayerNorm
public import proofs.«01_k».proof.Proof.FfnUpBits
public import proofs.«01_k».proof.Proof.AttnPrepOut
public import Idealize.ShloMosaic.Adequacy
public import Idealize.ShloMosaic.Init

@[expose] public section

set_option maxRecDepth 16384

noncomputable section

namespace Cert.Proof

open Idealize.ShloMosaic Idealize.SL.Sem

/-- The attention runs and leaves its arguments as they were. -/
theorem quiescent_Kernel : Cert.quiescent_Kernel := fun m ρ _ => Cert.Kernel.Gen.frame m ρ

/-- The attention over the extended reals runs and leaves its arguments as they were. -/
theorem quiescent_KernelIdeal : Cert.quiescent_KernelIdeal := fun m ρ _ => Cert.KernelIdeal.Gen.frame m ρ

/-- The same from finite queries and keys. -/
theorem quiescent_KernelIdeal_pre_finite : Cert.quiescent_KernelIdeal_pre_finite := fun m ρ _ => Cert.KernelIdeal.Gen.frame m ρ

/-- The plain attention runs and leaves its arguments as they were. -/
theorem quiescent_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- The same from finite queries and keys. -/
theorem quiescent_ReferenceIdeal_pre_finite : Cert.quiescent_ReferenceIdeal_pre_finite := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- The up projection runs and leaves its arguments as they were. -/
theorem quiescent_Kernel2 : Cert.quiescent_Kernel2 :=
  Cert.Kernel2Ideal.Run.frame_bits

/-- The up projection over the extended reals runs and leaves its arguments as they were. -/
theorem quiescent_Kernel2Ideal : Cert.quiescent_Kernel2Ideal := fun m ρ _ => Cert.Kernel2Ideal.Run.frame m ρ

/-- The plain up projection runs and leaves its arguments as they were. -/
theorem quiescent_Reference2Ideal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run m ρ)

/-- The down projection runs and leaves its arguments as they were. -/
theorem quiescent_Kernel3 : Cert.quiescent_Kernel3 := fun m ρ _ => Cert.Kernel3.Gen.frame m ρ

/-- The down projection over the extended reals runs and leaves its arguments as they were. -/
theorem quiescent_Kernel3Ideal : Cert.quiescent_Kernel3Ideal := fun m ρ _ => Cert.Kernel3Ideal.Gen.frame m ρ

/-- The plain down projection runs and leaves its arguments as they were. -/
theorem quiescent_Reference3Ideal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

/-- The input projection runs and leaves its arguments as they were. -/
theorem quiescent_Kernel4 : Cert.quiescent_Kernel4 := fun m ρ _ => Cert.Kernel4.Gen.frame m ρ

/-- The input projection over the extended reals runs and leaves its arguments as they were. -/
theorem quiescent_Kernel4Ideal : Cert.quiescent_Kernel4Ideal := fun m ρ _ => Cert.Kernel4Ideal.Gen.frame m ρ

/-- The plain input projection runs and leaves its arguments as they were. -/
theorem quiescent_Reference4Ideal : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

/-- The output projection runs and leaves its arguments as they were. -/
theorem quiescent_Kernel5 : Cert.quiescent_Kernel5 := fun m ρ _ => Cert.Kernel5.Gen.frame m ρ

/-- The output projection over the extended reals runs and leaves its arguments as they were. -/
theorem quiescent_Kernel5Ideal : Cert.quiescent_Kernel5Ideal := fun m ρ _ => Cert.Kernel5Ideal.Gen.frame m ρ

/-- The plain output projection runs and leaves its arguments as they were. -/
theorem quiescent_Reference5Ideal : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run m ρ)

/-- The layer norm runs and leaves its arguments as they were. -/
theorem quiescent_Kernel6 : Cert.quiescent_Kernel6 := fun m ρ _ => Cert.Kernel6.Gen.frame m ρ

/-- The layer norm over the extended reals runs and leaves its arguments as they were. -/
theorem quiescent_Kernel6Ideal : Cert.quiescent_Kernel6Ideal := fun m ρ _ => Cert.Kernel6Ideal.Gen.frame m ρ

/-- The plain layer norm runs and leaves its arguments as they were. -/
theorem quiescent_Reference6Ideal : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run m ρ)

/-- The preparation of the attention runs and leaves its arguments as they were. -/
theorem quiescent_Kernel7 : Cert.quiescent_Kernel7 := fun m ρ _ => Cert.Kernel7.Gen.frame m ρ

/-- The preparation of the attention over the extended reals runs and leaves its arguments as they were. -/
theorem quiescent_Kernel7Ideal : Cert.quiescent_Kernel7Ideal := fun m ρ _ => Cert.Kernel7Ideal.Gen.frame m ρ

/-- The plain norm and rotation of queries and keys runs and leaves its arguments as they were. -/
theorem quiescent_Reference7Ideal : Cert.quiescent_Reference7Ideal := fun m ρ _ =>
  (θ_run Cert.Reference7Ideal.defs _ _).mono (fun r h => ⟨fun c => (h c).2.2.2, Idealize.ShloMosaic.sem_eq_zero_of_no_sems (by decide) r.2⟩)
    (Cert.Reference7Ideal.Value.run m ρ)

/-- The one named constant is the number its pattern stands for. -/
theorem preserves_Kernel_KernelIdeal : Cert.preserves_Kernel_KernelIdeal :=
  IdealRules.named_const.statement Cert.KernelIdeal.κ "scale_log2e" .f32 0x3E0293EE#32 (((11863283 / 134217728) * (Real.log 2)⁻¹ : ℝ) : EReal) rfl

/-- The attention over the extended reals ends with the plain attention's result. -/
theorem algebraic_KernelIdeal_ReferenceIdeal_pre_finite : Cert.algebraic_KernelIdeal_ReferenceIdeal_pre_finite := by
  pair_intro
  · run_from Cert.KernelIdeal.Gen.run_main m g
  · hlo_run
    have hq : ∀ i, ∃ r : ℝ, m ((c.tc : Thread Cert.KernelIdeal.nD Cert.KernelIdeal.τ).loc Cert.KernelIdeal.main_arg0) i = (r : EReal) := fun i =>
      Cert.Softmax.real_of_abs_lt _ (congrFun (hpre c).1 i)
    have hk : ∀ i, ∃ r : ℝ, m ((c.tc : Thread Cert.KernelIdeal.nD Cert.KernelIdeal.τ).loc Cert.KernelIdeal.main_arg1) i = (r : EReal) := fun i =>
      Cert.Softmax.real_of_abs_lt _ (congrFun (hpre c).2 i)
    exact (Cert.KernelIdeal.Value.final m c hq hk).symm

/-- The up projection names no constant. -/
theorem preserves_Kernel2_Kernel2Ideal : Cert.preserves_Kernel2_Kernel2Ideal := trivial

/-- The up projection over the extended reals ends with the plain up projection's result. -/
theorem algebraic_Kernel2Ideal_Reference2Ideal : Cert.algebraic_Kernel2Ideal_Reference2Ideal := by
  pair_intro
  · run_from Cert.Kernel2Ideal.Run.run_main m g
  · run_from Cert.Reference2Ideal.Value.run m' g'
    obtain ⟨h0, h1, h2, h3⟩ := hagree c
    rw [Cert.Reference2Ideal.Value.res_eq, h0, h1, h2, h3]
    exact (Cert.Kernel2Ideal.Value.final m c).symm

/-- The down projection names no constant. -/
theorem preserves_Kernel3_Kernel3Ideal : Cert.preserves_Kernel3_Kernel3Ideal := trivial

/-- The down projection over the extended reals ends with the plain down projection's result. -/
theorem algebraic_Kernel3Ideal_Reference3Ideal : Cert.algebraic_Kernel3Ideal_Reference3Ideal := by
  pair_intro
  · run_from Cert.Kernel3Ideal.Gen.run_main m g
  · hlo_run
    exact (Cert.Kernel3Ideal.Value.final m c).symm

/-- The input projection names no constant. -/
theorem preserves_Kernel4_Kernel4Ideal : Cert.preserves_Kernel4_Kernel4Ideal := trivial

/-- The input projection over the extended reals ends with the plain input projection's result. -/
theorem algebraic_Kernel4Ideal_Reference4Ideal : Cert.algebraic_Kernel4Ideal_Reference4Ideal := by
  pair_intro
  · run_from Cert.Kernel4Ideal.Gen.run_main m g
  · hlo_run
    exact (Cert.Kernel4Ideal.Value.final m c).symm

/-- The output projection names no constant. -/
theorem preserves_Kernel5_Kernel5Ideal : Cert.preserves_Kernel5_Kernel5Ideal := trivial

/-- The output projection over the extended reals ends with the plain output projection's result. -/
theorem algebraic_Kernel5Ideal_Reference5Ideal : Cert.algebraic_Kernel5Ideal_Reference5Ideal := by
  pair_intro
  · run_from Cert.Kernel5Ideal.Gen.run_main m g
  · run_from Cert.Reference5Ideal.Value.run m' g'
    exact (Cert.Kernel5Ideal.Value.final m c).symm

/-- The layer norm names no constant. -/
theorem preserves_Kernel6_Kernel6Ideal : Cert.preserves_Kernel6_Kernel6Ideal := trivial

/-- The layer norm over the extended reals ends with the plain layer norm's result. -/
theorem algebraic_Kernel6Ideal_Reference6Ideal : Cert.algebraic_Kernel6Ideal_Reference6Ideal := by
  pair_intro
  · run_from Cert.Kernel6Ideal.Gen.run_main m g
  · hlo_run
    · exact (Cert.Kernel6Ideal.Value.final m c).symm
    · exact (Cert.Kernel6Ideal.Value.final_bf16 m c).symm

/-- The preparation of the attention names no constant. -/
theorem preserves_Kernel7_Kernel7Ideal : Cert.preserves_Kernel7_Kernel7Ideal := trivial

set_option maxHeartbeats 2000000 in
/-- The preparation of the attention over the extended reals ends with the plainly normed and rotated queries and keys and with the
values turned over. -/
theorem algebraic_Kernel7Ideal_Reference7Ideal : Cert.algebraic_Kernel7Ideal_Reference7Ideal := by
  pair_intro
  · run_from Cert.Kernel7Ideal.Gen.run_main m g
    · exact Cert.Kernel7Ideal.Gen.V_main_arg1 m c
    · exact Cert.Kernel7Ideal.Gen.V_main_arg2 m c
  · run_from Cert.Reference7Ideal.Value.run m' g'
    · obtain ⟨h0, h1, h2⟩ := hagree c
      rw [Cert.Reference7Ideal.Value.qres_eq, h0, h1]
      exact (Cert.Kernel7Ideal.Value.qfinal m c).symm
    · obtain ⟨h0, h1, h2⟩ := hagree c
      rw [Cert.Reference7Ideal.Value.kres_eq, h0, h2]
      exact (Cert.Kernel7Ideal.Value.kfinal m c).symm
    · exact (Cert.Kernel7Ideal.Value.vfinal m c).symm

/-- All the claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts,
   quiescent_Kernel,
   quiescent_KernelIdeal,
   quiescent_KernelIdeal_pre_finite,
   quiescent_ReferenceIdeal,
   quiescent_ReferenceIdeal_pre_finite,
   quiescent_Kernel2,
   quiescent_Kernel2Ideal,
   quiescent_Reference2Ideal,
   quiescent_Kernel3,
   quiescent_Kernel3Ideal,
   quiescent_Reference3Ideal,
   quiescent_Kernel4,
   quiescent_Kernel4Ideal,
   quiescent_Reference4Ideal,
   quiescent_Kernel5,
   quiescent_Kernel5Ideal,
   quiescent_Reference5Ideal,
   quiescent_Kernel6,
   quiescent_Kernel6Ideal,
   quiescent_Reference6Ideal,
   quiescent_Kernel7,
   quiescent_Kernel7Ideal,
   quiescent_Reference7Ideal,
   preserves_Kernel_KernelIdeal,
   algebraic_KernelIdeal_ReferenceIdeal_pre_finite,
   preserves_Kernel2_Kernel2Ideal,
   algebraic_Kernel2Ideal_Reference2Ideal,
   preserves_Kernel3_Kernel3Ideal,
   algebraic_Kernel3Ideal_Reference3Ideal,
   preserves_Kernel4_Kernel4Ideal,
   algebraic_Kernel4Ideal_Reference4Ideal,
   preserves_Kernel5_Kernel5Ideal,
   algebraic_Kernel5Ideal_Reference5Ideal,
   preserves_Kernel6_Kernel6Ideal,
   algebraic_Kernel6Ideal_Reference6Ideal,
   preserves_Kernel7_Kernel7Ideal,
   algebraic_Kernel7Ideal_Reference7Ideal⟩

end Cert.Proof

end
